-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mamba_defaults [hPre_mamba_defaults : Cert.Pre_mamba_defaults.Facts] (m : (ℓ : Loc Cert.KernelIdeal.nD Cert.KernelIdeal.τ Cert.KernelIdeal.sig) → Buf (Elt Ideal) ℓ) : Prop :=
  ∀ c : Dev Cert.KernelIdeal.nD,
    (Cert.Pre_mamba_defaults.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_mamba_defaults.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_mamba_defaults.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_mamba_defaults.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_mamba_defaults.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_mamba_defaults.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.1 = (fun _ => 1#1)
    ∧ (Cert.Pre_mamba_defaults.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.1 = (fun _ => 1#1)
    ∧ (Cert.Pre_mamba_defaults.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.1 = (fun _ => 1#1)
    ∧ (Cert.Pre_mamba_defaults.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.1 = (fun _ => 1#1)
    ∧ (Cert.Pre_mamba_defaults.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.1 = (fun _ => 1#1)
    ∧ (Cert.Pre_mamba_defaults.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.1 = (fun _ => 1#1)
    ∧ (Cert.Pre_mamba_defaults.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.1 = (fun _ => 1#1)
    ∧ (Cert.Pre_mamba_defaults.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.1 = (fun _ => 1#1)
    ∧ (Cert.Pre_mamba_defaults.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2.1 = (fun _ => 1#1)
    ∧ (Cert.Pre_mamba_defaults.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2.2.1 = (fun _ => 1#1)
    ∧ (Cert.Pre_mamba_defaults.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2.2.2.1 = (fun _ => 1#1)
    ∧ (Cert.Pre_mamba_defaults.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mamba_defaults [hPre_mamba_defaults : Cert.Pre_mamba_defaults.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mamba_defaults.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_mamba_defaults.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_mamba_defaults.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_mamba_defaults.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_mamba_defaults.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_mamba_defaults.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.1 = (fun _ => 1#1)
    ∧ (Cert.Pre_mamba_defaults.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.1 = (fun _ => 1#1)
    ∧ (Cert.Pre_mamba_defaults.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.1 = (fun _ => 1#1)
    ∧ (Cert.Pre_mamba_defaults.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.1 = (fun _ => 1#1)
    ∧ (Cert.Pre_mamba_defaults.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.1 = (fun _ => 1#1)
    ∧ (Cert.Pre_mamba_defaults.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.1 = (fun _ => 1#1)
    ∧ (Cert.Pre_mamba_defaults.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.1 = (fun _ => 1#1)
    ∧ (Cert.Pre_mamba_defaults.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.1 = (fun _ => 1#1)
    ∧ (Cert.Pre_mamba_defaults.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2.1 = (fun _ => 1#1)
    ∧ (Cert.Pre_mamba_defaults.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2.2.1 = (fun _ => 1#1)
    ∧ (Cert.Pre_mamba_defaults.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2.2.2.1 = (fun _ => 1#1)
    ∧ (Cert.Pre_mamba_defaults.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_mamba_defaults [hKernelIdeal : Cert.KernelIdeal.Facts] [hPre_mamba_defaults : Cert.Pre_mamba_defaults.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mamba_defaults m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_mamba_defaults [hReferenceIdeal : Cert.ReferenceIdeal.Facts] [hPre_mamba_defaults : Cert.Pre_mamba_defaults.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mamba_defaults m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_mamba_defaults [hKernelIdeal : Cert.KernelIdeal.Facts] [hReferenceIdeal : Cert.ReferenceIdeal.Facts] [hPre_mamba_defaults : Cert.Pre_mamba_defaults.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mamba_defaults m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v477) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_mamba_defaults : Cert.Pre_mamba_defaults.Facts),
    quiescent_Kernel (hKernel := hKernel)
    ∧ quiescent_KernelIdeal (hKernelIdeal := hKernelIdeal)
    ∧ quiescent_KernelIdeal_pre_mamba_defaults (hKernelIdeal := hKernelIdeal) (hPre_mamba_defaults := hPre_mamba_defaults)
    ∧ quiescent_ReferenceIdeal (hReferenceIdeal := hReferenceIdeal)
    ∧ quiescent_ReferenceIdeal_pre_mamba_defaults (hReferenceIdeal := hReferenceIdeal) (hPre_mamba_defaults := hPre_mamba_defaults)
    ∧ preserves_Kernel_KernelIdeal
    ∧ algebraic_KernelIdeal_ReferenceIdeal_pre_mamba_defaults (hKernelIdeal := hKernelIdeal) (hReferenceIdeal := hReferenceIdeal) (hPre_mamba_defaults := hPre_mamba_defaults)
-- ==== Pre_mamba_defaults.lean ====
abbrev S2048x5x512 : Shape := ⟨3, ![2048, 5, 512]⟩
abbrev S2048x2x512 : Shape := ⟨3, ![2048, 2, 512]⟩
abbrev S2048x512 : Shape := ⟨2, ![2048, 512]⟩
abbrev S1024x4 : Shape := ⟨2, ![1024, 4]⟩
abbrev S1024 : Shape := ⟨1, ![1024]⟩
abbrev S64x1024 : Shape := ⟨2, ![64, 1024]⟩
abbrev S1024x32 : Shape := ⟨2, ![1024, 32]⟩
abbrev S1024x16 : Shape := ⟨2, ![1024, 16]⟩
abbrev S512x1024 : Shape := ⟨2, ![512, 1024]⟩
abbrev S5x5 : Shape := ⟨2, ![5, 5]⟩
abbrev S5 : Shape := ⟨1, ![5]⟩
abbrev S2x2 : Shape := ⟨2, ![2, 2]⟩
abbrev S2 : Shape := ⟨1, ![2]⟩
abbrev S16 : Shape := ⟨1, ![16]⟩
abbrev S_ : Shape := ⟨0, ![]⟩
abbrev S1x16 : Shape := ⟨2, ![1, 16]⟩

class Facts : Prop where
  bcast_S_S16 : S_.BroadcastsInDim S16 (![] : Fin 0 → Fin S16.rank)
  bcast_S_S1024 : S_.BroadcastsInDim S1024 (![] : Fin 0 → Fin S1024.rank)
  reducesTo_S1024_S_d0 : S1024.ReducesTo [0] S_
  h_S_ : 0 < S_.numel
  bcast_S16_S1x16_1 : S16.BroadcastsInDim S1x16 (![1] : Fin 1 → Fin S1x16.rank)
  bcast_S1x16_S1024x16_0_1 : S1x16.BroadcastsInDim S1024x16 (![0, 1] : Fin 2 → Fin S1024x16.rank)
  reducesTo_S1024x16_S_d0_1 : S1024x16.ReducesTo [0, 1] S_
  bcast_S_S2048x5x512 : S_.BroadcastsInDim S2048x5x512 (![] : Fin 0 → Fin S2048x5x512.rank)
  reducesTo_S2048x5x512_S_d0_1_2 : S2048x5x512.ReducesTo [0, 1, 2] S_
  bcast_S_S2048x2x512 : S_.BroadcastsInDim S2048x2x512 (![] : Fin 0 → Fin S2048x2x512.rank)
  reducesTo_S2048x2x512_S_d0_1_2 : S2048x2x512.ReducesTo [0, 1, 2] S_
  bcast_S_S2048x512 : S_.BroadcastsInDim S2048x512 (![] : Fin 0 → Fin S2048x512.rank)
  reducesTo_S2048x512_S_d0_1 : S2048x512.ReducesTo [0, 1] S_
  bcast_S_S1024x4 : S_.BroadcastsInDim S1024x4 (![] : Fin 0 → Fin S1024x4.rank)
  reducesTo_S1024x4_S_d0_1 : S1024x4.ReducesTo [0, 1] S_
  bcast_S_S64x1024 : S_.BroadcastsInDim S64x1024 (![] : Fin 0 → Fin S64x1024.rank)
  reducesTo_S64x1024_S_d0_1 : S64x1024.ReducesTo [0, 1] S_
  bcast_S_S1024x32 : S_.BroadcastsInDim S1024x32 (![] : Fin 0 → Fin S1024x32.rank)
  reducesTo_S1024x32_S_d0_1 : S1024x32.ReducesTo [0, 1] S_
  bcast_S_S512x1024 : S_.BroadcastsInDim S512x1024 (![] : Fin 0 → Fin S512x1024.rank)
  reducesTo_S512x1024_S_d0_1 : S512x1024.ReducesTo [0, 1] S_
  bcast_S_S5x5 : S_.BroadcastsInDim S5x5 (![] : Fin 0 → Fin S5x5.rank)
  reducesTo_S5x5_S_d0_1 : S5x5.ReducesTo [0, 1] S_
  bcast_S_S5 : S_.BroadcastsInDim S5 (![] : Fin 0 → Fin S5.rank)
  reducesTo_S5_S_d0 : S5.ReducesTo [0] S_
  bcast_S_S2x2 : S_.BroadcastsInDim S2x2 (![] : Fin 0 → Fin S2x2.rank)
  reducesTo_S2x2_S_d0_1 : S2x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S2 .f32) (main_v7 : IVec S_ 1) (main_v10 : IVec S_ 1) (main_v14 : IVec S_ 1) (main_v18 : IVec S_ 1) (main_v22 : IVec S_ 1) (main_v26 : IVec S_ 1) (main_v30 : IVec S_ 1) (main_v34 : IVec S_ 1) (main_v38 : IVec S_ 1) (main_v42 : IVec S_ 1) (main_v46 : IVec S_ 1) (main_v50 : IVec S_ 1) (main_v54 : IVec S_ 1) (main_v58 : IVec S_ 1) (main_v62 : IVec S_ 1) (main_v63 : FVec F S2x2 .f32) (main_v64 : FVec F S2x2 .f32) : IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 :=
  let main_v65 : IVec S2x2 1 := cmpf .olt main_v63 main_v64
  let main_c_29 : IVec S_ 1 := constantI S_ 1 1#1
  let main_v66 : IVec S_ 1 := (fun x v => Host.reduce IntOp.andi x v reducesTo_S2x2_S_d0_1 h_S_) main_v65 main_c_29
  let main_v67 : FVec F S2 .f32 := Host.absf main_arg16
  let main_cst_30 : FVec F S_ .f32 := constant S_ .f32 0x7F800000#32
  let main_v68 : FVec F S2 .f32 := broadcastInDim S2 ![] bcast_S_S2 main_cst_30
  let main_v69 : IVec S2 1 := cmpf .olt main_v67 main_v68
  let main_c_31 : IVec S_ 1 := constantI S_ 1 1#1
  let main_v70 : IVec S_ 1 := (fun x v => Host.reduce IntOp.andi x v reducesTo_S2_S_d0 h_S_) main_v69 main_c_31
  (main_v7, main_v10, main_v14, main_v18, main_v22, main_v26, main_v30, main_v34, main_v38, main_v42, main_v46, main_v50, main_v54, main_v58, main_v62, main_v66, main_v70)

def fn_part3 {F : FTy → Type} [FloatOps F] (main_arg12 : FVec F S512x1024 .f32) (main_arg13 : FVec F S5x5 .f32) (main_arg14 : FVec F S5 .f32) (main_arg15 : FVec F S2x2 .f32) (main_arg16 : FVec F S2 .f32) (main_v7 : IVec S_ 1) (main_v10 : IVec S_ 1) (main_v14 : IVec S_ 1) (main_v18 : IVec S_ 1) (main_v22 : IVec S_ 1) (main_v26 : IVec S_ 1) (main_v30 : IVec S_ 1) (main_v34 : IVec S_ 1) (main_v38 : IVec S_ 1) (main_v42 : IVec S_ 1) (main_v46 : IVec S_ 1) (main_v47 : FVec F S1024 .f32) (main_v48 : FVec F S1024 .f32) : IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 :=
  let main_v49 : IVec S1024 1 := cmpf .olt main_v47 main_v48
  let main_c_21 : IVec S_ 1 := constantI S_ 1 1#1
  let main_v50 : IVec S_ 1 := (fun x v => Host.reduce IntOp.andi x v reducesTo_S1024_S_d0 h_S_) main_v49 main_c_21
  let main_v51 : FVec F S512x1024 .f32 := Host.absf main_arg12
  let main_cst_22 : FVec F S_ .f32 := constant S_ .f32 0x7F800000#32
  let main_v52 : FVec F S512x1024 .f32 := broadcastInDim S512x1024 ![] bcast_S_S512x1024 main_cst_22
  let main_v53 : IVec S512x1024 1 := cmpf .olt main_v51 main_v52
  let main_c_23 : IVec S_ 1 := constantI S_ 1 1#1
  let main_v54 : IVec S_ 1 := (fun x v => Host.reduce IntOp.andi x v reducesTo_S512x1024_S_d0_1 h_S_) main_v53 main_c_23
  let main_v55 : FVec F S5x5 .f32 := Host.absf main_arg13
  let main_cst_24 : FVec F S_ .f32 := constant S_ .f32 0x7F800000#32
  let main_v56 : FVec F S5x5 .f32 := broadcastInDim S5x5 ![] bcast_S_S5x5 main_cst_24
  let main_v57 : IVec S5x5 1 := cmpf .olt main_v55 main_v56
  let main_c_25 : IVec S_ 1 := constantI S_ 1 1#1
  let main_v58 : IVec S_ 1 := (fun x v => Host.reduce IntOp.andi x v reducesTo_S5x5_S_d0_1 h_S_) main_v57 main_c_25
  let main_v59 : FVec F S5 .f32 := Host.absf main_arg14
  let main_cst_26 : FVec F S_ .f32 := constant S_ .f32 0x7F800000#32
  let main_v60 : FVec F S5 .f32 := broadcastInDim S5 ![] bcast_S_S5 main_cst_26
  let main_v61 : IVec S5 1 := cmpf .olt main_v59 main_v60
  let main_c_27 : IVec S_ 1 := constantI S_ 1 1#1
  let main_v62 : IVec S_ 1 := (fun x v => Host.reduce IntOp.andi x v reducesTo_S5_S_d0 h_S_) main_v61 main_c_27
  let main_v63 : FVec F S2x2 .f32 := Host.absf main_arg15
  let main_cst_28 : FVec F S_ .f32 := constant S_ .f32 0x7F800000#32
  let main_v64 : FVec F S2x2 .f32 := broadcastInDim S2x2 ![] bcast_S_S2x2 main_cst_28
  fn_part4 (F := F) main_arg16 main_v7 main_v10 main_v14 main_v18 main_v22 main_v26 main_v30 main_v34 main_v38 main_v42 main_v46 main_v50 main_v54 main_v58 main_v62 main_v63 main_v64

def fn_part2 {F : FTy → Type} [FloatOps F] (main_arg5 : FVec F S1024x4 .f32) (main_arg7 : FVec F S64x1024 .f32) (main_arg8 : FVec F S1024x32 .f32) (main_arg9 : FVec F S1024 .f32) (main_arg12 : FVec F S512x1024 .f32) (main_arg13 : FVec F S5x5 .f32) (main_arg14 : FVec F S5 .f32) (main_arg15 : FVec F S2x2 .f32) (main_arg16 : FVec F S2 .f32) (main_v7 : IVec S_ 1) (main_v10 : IVec S_ 1) (main_v14 : IVec S_ 1) (main_v18 : IVec S_ 1) (main_v22 : IVec S_ 1) (main_v26 : IVec S_ 1) (main_v30 : IVec S_ 1) (main_v31 : FVec F S2048x512 .f32) (main_v32 : FVec F S2048x512 .f32) : IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 :=
  let main_v33 : IVec S2048x512 1 := cmpf .olt main_v31 main_v32
  let main_c_13 : IVec S_ 1 := constantI S_ 1 1#1
  let main_v34 : IVec S_ 1 := (fun x v => Host.reduce IntOp.andi x v reducesTo_S2048x512_S_d0_1 h_S_) main_v33 main_c_13
  let main_v35 : FVec F S1024x4 .f32 := Host.absf main_arg5
  let main_cst_14 : FVec F S_ .f32 := constant S_ .f32 0x7F800000#32
  let main_v36 : FVec F S1024x4 .f32 := broadcastInDim S1024x4 ![] bcast_S_S1024x4 main_cst_14
  let main_v37 : IVec S1024x4 1 := cmpf .olt main_v35 main_v36
  let main_c_15 : IVec S_ 1 := constantI S_ 1 1#1
  let main_v38 : IVec S_ 1 := (fun x v => Host.reduce IntOp.andi x v reducesTo_S1024x4_S_d0_1 h_S_) main_v37 main_c_15
  let main_v39 : FVec F S64x1024 .f32 := Host.absf main_arg7
  let main_cst_16 : FVec F S_ .f32 := constant S_ .f32 0x7F800000#32
  let main_v40 : FVec F S64x1024 .f32 := broadcastInDim S64x1024 ![] bcast_S_S64x1024 main_cst_16
  let main_v41 : IVec S64x1024 1 := cmpf .olt main_v39 main_v40
  let main_c_17 : IVec S_ 1 := constantI S_ 1 1#1
  let main_v42 : IVec S_ 1 := (fun x v => Host.reduce IntOp.andi x v reducesTo_S64x1024_S_d0_1 h_S_) main_v41 main_c_17
  let main_v43 : FVec F S1024x32 .f32 := Host.absf main_arg8
  let main_cst_18 : FVec F S_ .f32 := constant S_ .f32 0x7F800000#32
  let main_v44 : FVec F S1024x32 .f32 := broadcastInDim S1024x32 ![] bcast_S_S1024x32 main_cst_18
  let main_v45 : IVec S1024x32 1 := cmpf .olt main_v43 main_v44
  let main_c_19 : IVec S_ 1 := constantI S_ 1 1#1
  let main_v46 : IVec S_ 1 := (fun x v => Host.reduce IntOp.andi x v reducesTo_S1024x32_S_d0_1 h_S_) main_v45 main_c_19
  let main_v47 : FVec F S1024 .f32 := Host.absf main_arg9
  let main_cst_20 : FVec F S_ .f32 := constant S_ .f32 0x7F800000#32
  let main_v48 : FVec F S1024 .f32 := broadcastInDim S1024 ![] bcast_S_S1024 main_cst_20
  fn_part3 (F := F) main_arg12 main_arg13 main_arg14 main_arg15 main_arg16 main_v7 main_v10 main_v14 main_v18 main_v22 main_v26 main_v30 main_v34 main_v38 main_v42 main_v46 main_v47 main_v48

def fn_part1 {F : FTy → Type} [FloatOps F] (main_arg1 : FVec F S2048x5x512 .f32) (main_arg2 : FVec F S2048x5x512 .f32) (main_arg3 : FVec F S2048x2x512 .f32) (main_arg4 : FVec F S2048x512 .f32) (main_arg5 : FVec F S1024x4 .f32) (main_arg7 : FVec F S64x1024 .f32) (main_arg8 : FVec F S1024x32 .f32) (main_arg9 : FVec F S1024 .f32) (main_arg12 : FVec F S512x1024 .f32) (main_arg13 : FVec F S5x5 .f32) (main_arg14 : FVec F S5 .f32) (main_arg15 : FVec F S2x2 .f32) (main_arg16 : FVec F S2 .f32) (main_v7 : IVec S_ 1) (main_v10 : IVec S_ 1) (main_v14 : IVec S_ 1) (main_v15 : FVec F S2048x5x512 .f32) (main_v16 : FVec F S2048x5x512 .f32) : IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 :=
  let main_v17 : IVec S2048x5x512 1 := cmpf .olt main_v15 main_v16
  let main_c_5 : IVec S_ 1 := constantI S_ 1 1#1
  let main_v18 : IVec S_ 1 := (fun x v => Host.reduce IntOp.andi x v reducesTo_S2048x5x512_S_d0_1_2 h_S_) main_v17 main_c_5
  let main_v19 : FVec F S2048x5x512 .f32 := Host.absf main_arg1
  let main_cst_6 : FVec F S_ .f32 := constant S_ .f32 0x7F800000#32
  let main_v20 : FVec F S2048x5x512 .f32 := broadcastInDim S2048x5x512 ![] bcast_S_S2048x5x512 main_cst_6
  let main_v21 : IVec S2048x5x512 1 := cmpf .olt main_v19 main_v20
  let main_c_7 : IVec S_ 1 := constantI S_ 1 1#1
  let main_v22 : IVec S_ 1 := (fun x v => Host.reduce IntOp.andi x v reducesTo_S2048x5x512_S_d0_1_2 h_S_) main_v21 main_c_7
  let main_v23 : FVec F S2048x5x512 .f32 := Host.absf main_arg2
  let main_cst_8 : FVec F S_ .f32 := constant S_ .f32 0x7F800000#32
  let main_v24 : FVec F S2048x5x512 .f32 := broadcastInDim S2048x5x512 ![] bcast_S_S2048x5x512 main_cst_8
  let main_v25 : IVec S2048x5x512 1 := cmpf .olt main_v23 main_v24
  let main_c_9 : IVec S_ 1 := constantI S_ 1 1#1
  let main_v26 : IVec S_ 1 := (fun x v => Host.reduce IntOp.andi x v reducesTo_S2048x5x512_S_d0_1_2 h_S_) main_v25 main_c_9
  let main_v27 : FVec F S2048x2x512 .f32 := Host.absf main_arg3
  let main_cst_10 : FVec F S_ .f32 := constant S_ .f32 0x7F800000#32
  let main_v28 : FVec F S2048x2x512 .f32 := broadcastInDim S2048x2x512 ![] bcast_S_S2048x2x512 main_cst_10
  let main_v29 : IVec S2048x2x512 1 := cmpf .olt main_v27 main_v28
  let main_c_11 : IVec S_ 1 := constantI S_ 1 1#1
  let main_v30 : IVec S_ 1 := (fun x v => Host.reduce IntOp.andi x v reducesTo_S2048x2x512_S_d0_1_2 h_S_) main_v29 main_c_11
  let main_v31 : FVec F S2048x512 .f32 := Host.absf main_arg4
  let main_cst_12 : FVec F S_ .f32 := constant S_ .f32 0x7F800000#32
  let main_v32 : FVec F S2048x512 .f32 := broadcastInDim S2048x512 ![] bcast_S_S2048x512 main_cst_12
  fn_part2 (F := F) main_arg5 main_arg7 main_arg8 main_arg9 main_arg12 main_arg13 main_arg14 main_arg15 main_arg16 main_v7 main_v10 main_v14 main_v18 main_v22 main_v26 main_v30 main_v31 main_v32

def fn {F : FTy → Type} [FloatOps F] (main_arg0 : FVec F S2048x5x512 .f32) (main_arg1 : FVec F S2048x5x512 .f32) (main_arg2 : FVec F S2048x5x512 .f32) (main_arg3 : FVec F S2048x2x512 .f32) (main_arg4 : FVec F S2048x512 .f32) (main_arg5 : FVec F S1024x4 .f32) (main_arg6 : FVec F S1024 .f32) (main_arg7 : FVec F S64x1024 .f32) (main_arg8 : FVec F S1024x32 .f32) (main_arg9 : FVec F S1024 .f32) (main_arg10 : FVec F S1024x16 .f32) (main_arg11 : FVec F S1024 .f32) (main_arg12 : FVec F S512x1024 .f32) (main_arg13 : FVec F S5x5 .f32) (main_arg14 : FVec F S5 .f32) (main_arg15 : FVec F S2x2 .f32) (main_arg16 : FVec F S2 .f32) : IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 :=
  let main_v0 : IVec S16 32 := iotaInDim S16 32 0
  let main_c : IVec S_ 32 := constantI S_ 32 1#32
  let main_v1 : IVec S16 32 := broadcastInDim S16 ![] bcast_S_S16 main_c
  let main_v2 : IVec S16 32 := addi main_v0 main_v1
  let main_v3 : FVec F S16 .f32 := sitofp .f32 main_v2
  let main_v4 : FVec F S16 .f32 := Host.log main_v3
  let main_cst : FVec F S_ .f32 := constant S_ .f32 0x00000000#32
  let main_v5 : FVec F S1024 .f32 := broadcastInDim S1024 ![] bcast_S_S1024 main_cst
  let main_v6 : IVec S1024 1 := cmpf .oeq main_arg6 main_v5
  let main_c_0 : IVec S_ 1 := constantI S_ 1 1#1
  let main_v7 : IVec S_ 1 := (fun x v => Host.reduce IntOp.andi x v reducesTo_S1024_S_d0 h_S_) main_v6 main_c_0
  let main_cst_1 : FVec F S_ .f32 := constant S_ .f32 0x3F800000#32
  let main_v8 : FVec F S1024 .f32 := broadcastInDim S1024 ![] bcast_S_S1024 main_cst_1
  let main_v9 : IVec S1024 1 := cmpf .oeq main_arg11 main_v8
  let main_c_2 : IVec S_ 1 := constantI S_ 1 1#1
  let main_v10 : IVec S_ 1 := (fun x v => Host.reduce IntOp.andi x v reducesTo_S1024_S_d0 h_S_) main_v9 main_c_2
  let main_v11 : FVec F S1x16 .f32 := broadcastInDim S1x16 ![1] bcast_S16_S1x16_1 main_v4
  let main_v12 : FVec F S1024x16 .f32 := broadcastInDim S1024x16 ![0, 1] bcast_S1x16_S1024x16_0_1 main_v11
  let main_v13 : IVec S1024x16 1 := cmpf .oeq main_arg10 main_v12
  let main_c_3 : IVec S_ 1 := constantI S_ 1 1#1
  let main_v14 : IVec S_ 1 := (fun x v => Host.reduce IntOp.andi x v reducesTo_S1024x16_S_d0_1 h_S_) main_v13 main_c_3
  let main_v15 : FVec F S2048x5x512 .f32 := Host.absf main_arg0
  let main_cst_4 : FVec F S_ .f32 := constant S_ .f32 0x7F800000#32
  let main_v16 : FVec F S2048x5x512 .f32 := broadcastInDim S2048x5x512 ![] bcast_S_S2048x5x512 main_cst_4
  fn_part1 (F := F) main_arg1 main_arg2 main_arg3 main_arg4 main_arg5 main_arg7 main_arg8 main_arg9 main_arg12 main_arg13 main_arg14 main_arg15 main_arg16 main_v7 main_v10 main_v14 main_v15 main_v16
-- ==== Kernel.lean ====
abbrev S2048x5x512 : Shape := ⟨3, ![2048, 5, 512]⟩
abbrev S2048x2x512 : Shape := ⟨3, ![2048, 2, 512]⟩
abbrev S2048x512 : Shape := ⟨2, ![2048, 512]⟩
abbrev S1024x4 : Shape := ⟨2, ![1024, 4]⟩
abbrev S1024 : Shape := ⟨1, ![1024]⟩
abbrev S64x1024 : Shape := ⟨2, ![64, 1024]⟩
abbrev S1024x32 : Shape := ⟨2, ![1024, 32]⟩
abbrev S1024x16 : Shape := ⟨2, ![1024, 16]⟩
abbrev S512x1024 : Shape := ⟨2, ![512, 1024]⟩
abbrev S5x5 : Shape := ⟨2, ![5, 5]⟩
abbrev S5 : Shape := ⟨1, ![5]⟩
abbrev S2x2 : Shape := ⟨2, ![2, 2]⟩
abbrev S2 : Shape := ⟨1, ![2]⟩
abbrev S1x2048x5x512 : Shape := ⟨4, ![1, 2048, 5, 512]⟩
abbrev S3x2048x5x512 : Shape := ⟨4, ![3, 2048, 5, 512]⟩
abbrev S3x5x2048x512 : Shape := ⟨4, ![3, 5, 2048, 512]⟩
abbrev S2x2048x512 : Shape := ⟨3, ![2, 2048, 512]⟩
abbrev S512x2048 : Shape := ⟨2, ![512, 2048]⟩
abbrev S4x1024 : Shape := ⟨2, ![4, 1024]⟩
abbrev S1024x64 : Shape := ⟨2, ![1024, 64]⟩
abbrev S32x1024 : Shape := ⟨2, ![32, 1024]⟩
abbrev S1x1024 : Shape := ⟨2, ![1, 1024]⟩
abbrev S1024x512 : Shape := ⟨2, ![1024, 512]⟩
abbrev S1x5x256x512 : Shape := ⟨4, ![1, 5, 256, 512]⟩
abbrev S2x256x512 : Shape := ⟨3, ![2, 256, 512]⟩
abbrev S256x512 : Shape := ⟨2, ![256, 512]⟩
abbrev S1280x512 : Shape := ⟨2, ![1280, 512]⟩
abbrev S1280x2048 : Shape := ⟨2, ![1280, 2048]⟩
abbrev S1280x1024 : Shape := ⟨2, ![1280, 1024]⟩
abbrev S256x1024 : Shape := ⟨2, ![256, 1024]⟩
abbrev S1280x64 : Shape := ⟨2, ![1280, 64]⟩
abbrev S1280x32 : Shape := ⟨2, ![1280, 32]⟩
abbrev S256x1 : Shape := ⟨2, ![256, 1]⟩
abbrev S256 : Shape := ⟨1, ![256]⟩
abbrev S1 : Shape := ⟨1, ![1]⟩
abbrev S1x1 : Shape := ⟨2, ![1, 1]⟩
abbrev S1x256x512 : Shape := ⟨3, ![1, 256, 512]⟩

abbrev nBuf : Space → Nat
  | .hbm => 36
  | .vmem => 12
  | .smem => 4
  | _ => 0

abbrev bufTy : (tb : Table) → Fin (tcTables nBuf tb) → BufTy
  | .hbm, ⟨0, _⟩ => ⟨S2048x5x512, .f32⟩
  | .hbm, ⟨1, _⟩ => ⟨S2048x5x512, .f32⟩
  | .hbm, ⟨2, _⟩ => ⟨S2048x5x512, .f32⟩
  | .hbm, ⟨3, _⟩ => ⟨S2048x2x512, .f32⟩
  | .hbm, ⟨4, _⟩ => ⟨S2048x512, .f32⟩
  | .hbm, ⟨5, _⟩ => ⟨S1024x4, .f32⟩
  | .hbm, ⟨6, _⟩ => ⟨S1024, .f32⟩
  | .hbm, ⟨7, _⟩ => ⟨S64x1024, .f32⟩
  | .hbm, ⟨8, _⟩ => ⟨S1024x32, .f32⟩
  | .hbm, ⟨9, _⟩ => ⟨S1024, .f32⟩
  | .hbm, ⟨10, _⟩ => ⟨S1024x16, .f32⟩
  | .hbm, ⟨11, _⟩ => ⟨S1024, .f32⟩
  | .hbm, ⟨12, _⟩ => ⟨S512x1024, .f32⟩
  | .hbm, ⟨13, _⟩ => ⟨S5x5, .f32⟩
  | .hbm, ⟨14, _⟩ => ⟨S5, .f32⟩
  | .hbm, ⟨15, _⟩ => ⟨S2x2, .f32⟩
  | .hbm, ⟨16, _⟩ => ⟨S2, .f32⟩
  | .hbm, ⟨17, _⟩ => ⟨S1x2048x5x512, .f32⟩
  | .hbm, ⟨18, _⟩ => ⟨S1x2048x5x512, .f32⟩
  | .hbm, ⟨19, _⟩ => ⟨S1x2048x5x512, .f32⟩
  | .hbm, ⟨20, _⟩ => ⟨S3x2048x5x512, .f32⟩
  | .hbm, ⟨21, _⟩ => ⟨S3x5x2048x512, .f32⟩
  | .hbm, ⟨22, _⟩ => ⟨S3x5x2048x512, .bf16⟩
  | .hbm, ⟨23, _⟩ => ⟨S2x2048x512, .f32⟩
  | .hbm, ⟨24, _⟩ => ⟨S512x2048, .f32⟩
  | .hbm, ⟨25, _⟩ => ⟨S512x2048, .bf16⟩
  | .hbm, ⟨26, _⟩ => ⟨S4x1024, .f32⟩
  | .hbm, ⟨27, _⟩ => ⟨S4x1024, .bf16⟩
  | .hbm, ⟨28, _⟩ => ⟨S1024x64, .f32⟩
  | .hbm, ⟨29, _⟩ => ⟨S1024x64, .bf16⟩
  | .hbm, ⟨30, _⟩ => ⟨S32x1024, .f32⟩
  | .hbm, ⟨31, _⟩ => ⟨S32x1024, .bf16⟩
  | .hbm, ⟨32, _⟩ => ⟨S1x1024, .f32⟩
  | .hbm, ⟨33, _⟩ => ⟨S1024x512, .f32⟩
  | .hbm, ⟨34, _⟩ => ⟨S1024x512, .bf16⟩
  | .hbm, ⟨35, _⟩ => ⟨S2048x512, .f32⟩
  | .local _ .vmem, ⟨0, _⟩ => ⟨S1x5x256x512, .bf16⟩
  | .local _ .vmem, ⟨1, _⟩ => ⟨S1x5x256x512, .bf16⟩
  | .local _ .vmem, ⟨2, _⟩ => ⟨S2x256x512, .f32⟩
  | .local _ .vmem, ⟨3, _⟩ => ⟨S2x256x512, .f32⟩
  | .local _ .vmem, ⟨4, _⟩ => ⟨S512x2048, .bf16⟩
  | .local _ .vmem, ⟨5, _⟩ => ⟨S4x1024, .bf16⟩
  | .local _ .vmem, ⟨6, _⟩ => ⟨S1024x64, .bf16⟩
  | .local _ .vmem, ⟨7, _⟩ => ⟨S32x1024, .bf16⟩
  | .local _ .vmem, ⟨8, _⟩ => ⟨S1x1024, .f32⟩
  | .local _ .vmem, ⟨9, _⟩ => ⟨S1024x512, .bf16⟩
  | .local _ .vmem, ⟨10, _⟩ => ⟨S256x512, .f32⟩
  | .local _ .vmem, ⟨11, _⟩ => ⟨S256x512, .f32⟩
  | .local _ .smem, ⟨0, _⟩ => ⟨S5x5, .f32⟩
  | .local _ .smem, ⟨1, _⟩ => ⟨S5, .f32⟩
  | .local _ .smem, ⟨2, _⟩ => ⟨S2x2, .f32⟩
  | .local _ .smem, ⟨3, _⟩ => ⟨S2, .f32⟩
  | _, _ => ⟨S2048x5x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg12_0 : Ref sig .tc := ⟨.vmem, 10, rfl⟩
abbrev cc0_stg12_1 : Ref sig .tc := ⟨.vmem, 11, rfl⟩
abbrev cc0_stg8_0 : Ref sig .tc := ⟨.smem, 0, rfl⟩
abbrev cc0_stg9_0 : Ref sig .tc := ⟨.smem, 1, rfl⟩
abbrev cc0_stg10_0 : Ref sig .tc := ⟨.smem, 2, rfl⟩
abbrev cc0_stg11_0 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨2, ![8, 3], ![false, false]⟩

def k0_cond1 (i : grid0.Coords) : BitVec 1 :=
  let arg1 : BitVec 32 := BitVec.ofNat 32 (i 1).val
  let c0_i32 : BitVec 32 := 0#32
  let v1247 : BitVec 1 := Scalar.cmpi .eq arg1 c0_i32
  let v1248 : BitVec 32 := Scalar.extui v1247
  let c0_i32_88 : BitVec 32 := 0#32
  let v1249 : BitVec 1 := Scalar.cmpi .ne v1248 c0_i32_88
  v1249

def k0_cond2 (i : grid0.Coords) : BitVec 1 :=
  let arg1 : BitVec 32 := BitVec.ofNat 32 (i 1).val
  let c0_i32_89 : BitVec 32 := 0#32
  let v1250 : BitVec 1 := Scalar.cmpi .ne arg1 c0_i32_89
  let v1251 : BitVec 32 := Scalar.extui v1250
  let c0_i32_90 : BitVec 32 := 0#32
  let v1252 : BitVec 1 := Scalar.cmpi .ne v1251 c0_i32_90
  v1252

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x5x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .smem S5x5 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .smem S5 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .smem S2x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .smem S2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S2048x5x512 : Shape := ⟨3, ![2048, 5, 512]⟩
abbrev S2048x2x512 : Shape := ⟨3, ![2048, 2, 512]⟩
abbrev S2048x512 : Shape := ⟨2, ![2048, 512]⟩
abbrev S1024x4 : Shape := ⟨2, ![1024, 4]⟩
abbrev S1024 : Shape := ⟨1, ![1024]⟩
abbrev S64x1024 : Shape := ⟨2, ![64, 1024]⟩
abbrev S1024x32 : Shape := ⟨2, ![1024, 32]⟩
abbrev S1024x16 : Shape := ⟨2, ![1024, 16]⟩
abbrev S512x1024 : Shape := ⟨2, ![512, 1024]⟩
abbrev S5x5 : Shape := ⟨2, ![5, 5]⟩
abbrev S5 : Shape := ⟨1, ![5]⟩
abbrev S2x2 : Shape := ⟨2, ![2, 2]⟩
abbrev S2 : Shape := ⟨1, ![2]⟩
abbrev S512x2048 : Shape := ⟨2, ![512, 2048]⟩
abbrev S2048x5x2048 : Shape := ⟨3, ![2048, 5, 2048]⟩
abbrev S2048x5x1024 : Shape := ⟨3, ![2048, 5, 1024]⟩
abbrev S_ : Shape := ⟨0, ![]⟩
abbrev S2048x8x1024 : Shape := ⟨3, ![2048, 8, 1024]⟩
abbrev S1024x1 : Shape := ⟨2, ![1024, 1]⟩
abbrev S1x1x1024 : Shape := ⟨3, ![1, 1, 1024]⟩
abbrev S1024x64 : Shape := ⟨2, ![1024, 64]⟩
abbrev S2048x5x64 : Shape := ⟨3, ![2048, 5, 64]⟩
abbrev S2048x5x32 : Shape := ⟨3, ![2048, 5, 32]⟩
abbrev S2048x5x16 : Shape := ⟨3, ![2048, 5, 16]⟩
abbrev S32x1024 : Shape := ⟨2, ![32, 1024]⟩
abbrev S2048x5x1024x1 : Shape := ⟨4, ![2048, 5, 1024, 1]⟩
abbrev S1x1x1024x16 : Shape := ⟨4, ![1, 1, 1024, 16]⟩
abbrev S2048x5x1024x16 : Shape := ⟨4, ![2048, 5, 1024, 16]⟩
abbrev S2048x5x1x16 : Shape := ⟨4, ![2048, 5, 1, 16]⟩
abbrev S2048x1024x16 : Shape := ⟨3, ![2048, 1024, 16]⟩
abbrev S2048x1x1024x16 : Shape := ⟨4, ![2048, 1, 1024, 16]⟩
abbrev S2048x1x16 : Shape := ⟨3, ![2048, 1, 16]⟩
abbrev S2048x16 : Shape := ⟨2, ![2048, 16]⟩
abbrev S2048x1024 : Shape := ⟨2, ![2048, 1024]⟩
abbrev S2048x1x1024 : Shape := ⟨3, ![2048, 1, 1024]⟩
abbrev S1024x512 : Shape := ⟨2, ![1024, 512]⟩
abbrev S2048x5 : Shape := ⟨2, ![2048, 5]⟩
abbrev S1x5 : Shape := ⟨2, ![1, 5]⟩
abbrev S2048 : Shape := ⟨1, ![2048]⟩
abbrev S2048x1 : Shape := ⟨2, ![2048, 1]⟩
abbrev S2048x5x1 : Shape := ⟨3, ![2048, 5, 1]⟩
abbrev S2048x2 : Shape := ⟨2, ![2048, 2]⟩
abbrev S1x2 : Shape := ⟨2, ![1, 2]⟩
abbrev S2048x2x1 : Shape := ⟨3, ![2048, 2, 1]⟩

abbrev nBuf : Space → Nat
  | .hbm => 622
  | .vmem => 0
  | .smem => 0
  | _ => 0

abbrev hbmTy0_0 (i : Nat) : BufTy := match i % 128 with
  | 0 => ⟨S2048x5x512, .f32⟩
  | 1 => ⟨S2048x5x512, .f32⟩
  | 2 => ⟨S2048x5x512, .f32⟩
  | 3 => ⟨S2048x2x512, .f32⟩
  | 4 => ⟨S2048x512, .f32⟩
  | 5 => ⟨S1024x4, .f32⟩
  | 6 => ⟨S1024, .f32⟩
  | 7 => ⟨S64x1024, .f32⟩
  | 8 => ⟨S1024x32, .f32⟩
  | 9 => ⟨S1024, .f32⟩
  | 10 => ⟨S1024x16, .f32⟩
  | 11 => ⟨S1024, .f32⟩
  | 12 => ⟨S512x1024, .f32⟩
  | 13 => ⟨S5x5, .f32⟩
  | 14 => ⟨S5, .f32⟩
  | 15 => ⟨S2x2, .f32⟩
  | 16 => ⟨S2, .f32⟩
  | 17 => ⟨S512x2048, .f32⟩
  | 18 => ⟨S2048x5x2048, .f32⟩
  | 19 => ⟨S2048x5x1024, .f32⟩
  | 20 => ⟨S2048x5x1024, .f32⟩
  | 21 => ⟨S_, .i32⟩
  | 22 => ⟨S_, .f32⟩
  | 23 => ⟨S2048x8x1024, .f32⟩
  | 24 => ⟨S2048x5x1024, .f32⟩
  | 25 => ⟨S1024x1, .f32⟩
  | 26 => ⟨S1024, .f32⟩
  | 27 => ⟨S1x1x1024, .f32⟩
  | 28 => ⟨S2048x5x1024, .f32⟩
  | 29 => ⟨S2048x5x1024, .f32⟩
  | 30 => ⟨S_, .f32⟩
  | 31 => ⟨S2048x5x1024, .f32⟩
  | 32 => ⟨S2048x5x1024, .f32⟩
  | 33 => ⟨S2048x5x1024, .f32⟩
  | 34 => ⟨S1024x1, .f32⟩
  | 35 => ⟨S1024, .f32⟩
  | 36 => ⟨S1x1x1024, .f32⟩
  | 37 => ⟨S2048x5x1024, .f32⟩
  | 38 => ⟨S2048x5x1024, .f32⟩
  | 39 => ⟨S2048x5x1024, .f32⟩
  | 40 => ⟨S2048x5x1024, .f32⟩
  | 41 => ⟨S1024x1, .f32⟩
  | 42 => ⟨S1024, .f32⟩
  | 43 => ⟨S1x1x1024, .f32⟩
  | 44 => ⟨S2048x5x1024, .f32⟩
  | 45 => ⟨S2048x5x1024, .f32⟩
  | 46 => ⟨S2048x5x1024, .f32⟩
  | 47 => ⟨S2048x5x1024, .f32⟩
  | 48 => ⟨S1024x1, .f32⟩
  | 49 => ⟨S1024, .f32⟩
  | 50 => ⟨S1x1x1024, .f32⟩
  | 51 => ⟨S2048x5x1024, .f32⟩
  | 52 => ⟨S2048x5x1024, .f32⟩
  | 53 => ⟨S2048x5x1024, .f32⟩
  | 54 => ⟨S1x1x1024, .f32⟩
  | 55 => ⟨S2048x5x1024, .f32⟩
  | 56 => ⟨S2048x5x1024, .f32⟩
  | 57 => ⟨S2048x5x1024, .f32⟩
  | 58 => ⟨S2048x5x1024, .f32⟩
  | 59 => ⟨S_, .f32⟩
  | 60 => ⟨S2048x5x1024, .f32⟩
  | 61 => ⟨S2048x5x1024, .f32⟩
  | 62 => ⟨S_, .f32⟩
  | 63 => ⟨S2048x5x1024, .f32⟩
  | 64 => ⟨S2048x5x1024, .f32⟩
  | 65 => ⟨S2048x5x1024, .f32⟩
  | 66 => ⟨S1024x64, .f32⟩
  | 67 => ⟨S2048x5x64, .f32⟩
  | 68 => ⟨S2048x5x32, .f32⟩
  | 69 => ⟨S2048x5x16, .f32⟩
  | 70 => ⟨S2048x5x16, .f32⟩
  | 71 => ⟨S32x1024, .f32⟩
  | 72 => ⟨S2048x5x1024, .f32⟩
  | 73 => ⟨S1x1x1024, .f32⟩
  | 74 => ⟨S2048x5x1024, .f32⟩
  | 75 => ⟨S2048x5x1024, .f32⟩
  | 76 => ⟨S_, .f32⟩
  | 77 => ⟨S2048x5x1024, .f32⟩
  | 78 => ⟨S2048x5x1024, .f32⟩
  | 79 => ⟨S2048x5x1024, .f32⟩
  | 80 => ⟨S2048x5x1024, .f32⟩
  | 81 => ⟨S2048x5x1024, .i1⟩
  | 82 => ⟨S2048x5x1024, .f32⟩
  | 83 => ⟨S2048x5x1024, .f32⟩
  | 84 => ⟨S2048x5x1024, .f32⟩
  | 85 => ⟨S2048x5x1024, .f32⟩
  | 86 => ⟨S2048x5x1024, .f32⟩
  | 87 => ⟨S2048x5x1024, .f32⟩
  | 88 => ⟨S2048x5x1024, .f32⟩
  | 89 => ⟨S2048x5x1024, .f32⟩
  | 90 => ⟨S1024x16, .f32⟩
  | 91 => ⟨S1024x16, .f32⟩
  | 92 => ⟨S2048x5x1024x1, .f32⟩
  | 93 => ⟨S1x1x1024x16, .f32⟩
  | 94 => ⟨S2048x5x1024x16, .f32⟩
  | 95 => ⟨S2048x5x1024x16, .f32⟩
  | 96 => ⟨S2048x5x1024x16, .f32⟩
  | 97 => ⟨S2048x5x1024x16, .f32⟩
  | 98 => ⟨S2048x5x1024x1, .f32⟩
  | 99 => ⟨S2048x5x1x16, .f32⟩
  | 100 => ⟨S2048x5x1024x16, .f32⟩
  | 101 => ⟨S2048x5x1024x16, .f32⟩
  | 102 => ⟨S2048x5x1024x16, .f32⟩
  | 103 => ⟨S2048x5x1024x1, .f32⟩
  | 104 => ⟨S2048x5x1024x16, .f32⟩
  | 105 => ⟨S2048x5x1024x16, .f32⟩
  | 106 => ⟨S_, .f32⟩
  | 107 => ⟨S2048x1024x16, .f32⟩
  | 108 => ⟨S2048x1x1024x16, .f32⟩
  | 109 => ⟨S2048x1024x16, .f32⟩
  | 110 => ⟨S2048x1x1024x16, .f32⟩
  | 111 => ⟨S2048x1024x16, .f32⟩
  | 112 => ⟨S2048x1x16, .f32⟩
  | 113 => ⟨S2048x16, .f32⟩
  | 114 => ⟨S2048x1024x16, .f32⟩
  | 115 => ⟨S2048x1024x16, .f32⟩
  | 116 => ⟨S2048x1024, .f32⟩
  | 117 => ⟨S2048x1x1024x16, .f32⟩
  | 118 => ⟨S2048x1024x16, .f32⟩
  | 119 => ⟨S2048x1x1024x16, .f32⟩
  | 120 => ⟨S2048x1024x16, .f32⟩
  | 121 => ⟨S2048x1x16, .f32⟩
  | 122 => ⟨S2048x16, .f32⟩
  | 123 => ⟨S2048x1024x16, .f32⟩
  | 124 => ⟨S2048x1024x16, .f32⟩
  | 125 => ⟨S2048x1024, .f32⟩
  | 126 => ⟨S2048x1x1024x16, .f32⟩
  | 127 => ⟨S2048x1024x16, .f32⟩
  | _ => ⟨S2048x5x512, .f32⟩

abbrev hbmTy0_1 (i : Nat) : BufTy := match i % 128 with
  | 0 => ⟨S2048x1x1024x16, .f32⟩
  | 1 => ⟨S2048x1024x16, .f32⟩
  | 2 => ⟨S2048x1x16, .f32⟩
  | 3 => ⟨S2048x16, .f32⟩
  | 4 => ⟨S2048x1024x16, .f32⟩
  | 5 => ⟨S2048x1024x16, .f32⟩
  | 6 => ⟨S2048x1024, .f32⟩
  | 7 => ⟨S2048x1x1024x16, .f32⟩
  | 8 => ⟨S2048x1024x16, .f32⟩
  | 9 => ⟨S2048x1x1024x16, .f32⟩
  | 10 => ⟨S2048x1024x16, .f32⟩
  | 11 => ⟨S2048x1x16, .f32⟩
  | 12 => ⟨S2048x16, .f32⟩
  | 13 => ⟨S2048x1024x16, .f32⟩
  | 14 => ⟨S2048x1024x16, .f32⟩
  | 15 => ⟨S2048x1024, .f32⟩
  | 16 => ⟨S2048x1x1024x16, .f32⟩
  | 17 => ⟨S2048x1024x16, .f32⟩
  | 18 => ⟨S2048x1x1024x16, .f32⟩
  | 19 => ⟨S2048x1024x16, .f32⟩
  | 20 => ⟨S2048x1x16, .f32⟩
  | 21 => ⟨S2048x16, .f32⟩
  | 22 => ⟨S2048x1024x16, .f32⟩
  | 23 => ⟨S2048x1024x16, .f32⟩
  | 24 => ⟨S2048x1024, .f32⟩
  | 25 => ⟨S2048x1x1024, .f32⟩
  | 26 => ⟨S2048x1x1024, .f32⟩
  | 27 => ⟨S2048x1x1024, .f32⟩
  | 28 => ⟨S2048x1x1024, .f32⟩
  | 29 => ⟨S2048x1x1024, .f32⟩
  | 30 => ⟨S2048x5x1024, .f32⟩
  | 31 => ⟨S1x1x1024, .f32⟩
  | 32 => ⟨S2048x5x1024, .f32⟩
  | 33 => ⟨S2048x5x1024, .f32⟩
  | 34 => ⟨S2048x5x1024, .f32⟩
  | 35 => ⟨S2048x5x1024, .f32⟩
  | 36 => ⟨S2048x5x1024, .f32⟩
  | 37 => ⟨S_, .f32⟩
  | 38 => ⟨S2048x5x1024, .f32⟩
  | 39 => ⟨S2048x5x1024, .f32⟩
  | 40 => ⟨S_, .f32⟩
  | 41 => ⟨S2048x5x1024, .f32⟩
  | 42 => ⟨S2048x5x1024, .f32⟩
  | 43 => ⟨S2048x5x1024, .f32⟩
  | 44 => ⟨S2048x5x1024, .f32⟩
  | 45 => ⟨S1024x512, .f32⟩
  | 46 => ⟨S2048x5x512, .f32⟩
  | 47 => ⟨S_, .f32⟩
  | 48 => ⟨S2048x5, .f32⟩
  | 49 => ⟨S_, .f32⟩
  | 50 => ⟨S2048x5, .f32⟩
  | 51 => ⟨S_, .f32⟩
  | 52 => ⟨S2048x5, .f32⟩
  | 53 => ⟨S2048x5, .f32⟩
  | 54 => ⟨S2048x5, .f32⟩
  | 55 => ⟨S5x5, .f32⟩
  | 56 => ⟨S2048x5, .f32⟩
  | 57 => ⟨S1x5, .f32⟩
  | 58 => ⟨S2048x5, .f32⟩
  | 59 => ⟨S2048x5, .f32⟩
  | 60 => ⟨S_, .f32⟩
  | 61 => ⟨S2048, .f32⟩
  | 62 => ⟨S_, .f32⟩
  | 63 => ⟨S2048, .f32⟩
  | 64 => ⟨S2048, .f32⟩
  | 65 => ⟨S2048x1, .f32⟩
  | 66 => ⟨S2048x5, .f32⟩
  | 67 => ⟨S2048x5, .f32⟩
  | 68 => ⟨S2048x5, .f32⟩
  | 69 => ⟨S_, .f32⟩
  | 70 => ⟨S2048, .f32⟩
  | 71 => ⟨S2048x1, .f32⟩
  | 72 => ⟨S2048x5, .f32⟩
  | 73 => ⟨S2048x5, .f32⟩
  | 74 => ⟨S2048x5x1, .f32⟩
  | 75 => ⟨S2048x5x512, .f32⟩
  | 76 => ⟨S2048x5x512, .f32⟩
  | 77 => ⟨S_, .f32⟩
  | 78 => ⟨S2048x512, .f32⟩
  | 79 => ⟨S512x2048, .f32⟩
  | 80 => ⟨S2048x5x2048, .f32⟩
  | 81 => ⟨S2048x5x1024, .f32⟩
  | 82 => ⟨S2048x5x1024, .f32⟩
  | 83 => ⟨S_, .i32⟩
  | 84 => ⟨S_, .f32⟩
  | 85 => ⟨S2048x8x1024, .f32⟩
  | 86 => ⟨S2048x5x1024, .f32⟩
  | 87 => ⟨S1024x1, .f32⟩
  | 88 => ⟨S1024, .f32⟩
  | 89 => ⟨S1x1x1024, .f32⟩
  | 90 => ⟨S2048x5x1024, .f32⟩
  | 91 => ⟨S2048x5x1024, .f32⟩
  | 92 => ⟨S_, .f32⟩
  | 93 => ⟨S2048x5x1024, .f32⟩
  | 94 => ⟨S2048x5x1024, .f32⟩
  | 95 => ⟨S2048x5x1024, .f32⟩
  | 96 => ⟨S1024x1, .f32⟩
  | 97 => ⟨S1024, .f32⟩
  | 98 => ⟨S1x1x1024, .f32⟩
  | 99 => ⟨S2048x5x1024, .f32⟩
  | 100 => ⟨S2048x5x1024, .f32⟩
  | 101 => ⟨S2048x5x1024, .f32⟩
  | 102 => ⟨S2048x5x1024, .f32⟩
  | 103 => ⟨S1024x1, .f32⟩
  | 104 => ⟨S1024, .f32⟩
  | 105 => ⟨S1x1x1024, .f32⟩
  | 106 => ⟨S2048x5x1024, .f32⟩
  | 107 => ⟨S2048x5x1024, .f32⟩
  | 108 => ⟨S2048x5x1024, .f32⟩
  | 109 => ⟨S2048x5x1024, .f32⟩
  | 110 => ⟨S1024x1, .f32⟩
  | 111 => ⟨S1024, .f32⟩
  | 112 => ⟨S1x1x1024, .f32⟩
  | 113 => ⟨S2048x5x1024, .f32⟩
  | 114 => ⟨S2048x5x1024, .f32⟩
  | 115 => ⟨S2048x5x1024, .f32⟩
  | 116 => ⟨S1x1x1024, .f32⟩
  | 117 => ⟨S2048x5x1024, .f32⟩
  | 118 => ⟨S2048x5x1024, .f32⟩
  | 119 => ⟨S2048x5x1024, .f32⟩
  | 120 => ⟨S2048x5x1024, .f32⟩
  | 121 => ⟨S_, .f32⟩
  | 122 => ⟨S2048x5x1024, .f32⟩
  | 123 => ⟨S2048x5x1024, .f32⟩
  | 124 => ⟨S_, .f32⟩
  | 125 => ⟨S2048x5x1024, .f32⟩
  | 126 => ⟨S2048x5x1024, .f32⟩
  | 127 => ⟨S2048x5x1024, .f32⟩
  | _ => ⟨S2048x5x512, .f32⟩

abbrev hbmTy0_2 (i : Nat) : BufTy := match i % 128 with
  | 0 => ⟨S1024x64, .f32⟩
  | 1 => ⟨S2048x5x64, .f32⟩
  | 2 => ⟨S2048x5x32, .f32⟩
  | 3 => ⟨S2048x5x16, .f32⟩
  | 4 => ⟨S2048x5x16, .f32⟩
  | 5 => ⟨S32x1024, .f32⟩
  | 6 => ⟨S2048x5x1024, .f32⟩
  | 7 => ⟨S1x1x1024, .f32⟩
  | 8 => ⟨S2048x5x1024, .f32⟩
  | 9 => ⟨S2048x5x1024, .f32⟩
  | 10 => ⟨S_, .f32⟩
  | 11 => ⟨S2048x5x1024, .f32⟩
  | 12 => ⟨S2048x5x1024, .f32⟩
  | 13 => ⟨S2048x5x1024, .f32⟩
  | 14 => ⟨S2048x5x1024, .f32⟩
  | 15 => ⟨S2048x5x1024, .i1⟩
  | 16 => ⟨S2048x5x1024, .f32⟩
  | 17 => ⟨S2048x5x1024, .f32⟩
  | 18 => ⟨S2048x5x1024, .f32⟩
  | 19 => ⟨S2048x5x1024, .f32⟩
  | 20 => ⟨S2048x5x1024, .f32⟩
  | 21 => ⟨S2048x5x1024, .f32⟩
  | 22 => ⟨S2048x5x1024, .f32⟩
  | 23 => ⟨S2048x5x1024, .f32⟩
  | 24 => ⟨S1024x16, .f32⟩
  | 25 => ⟨S1024x16, .f32⟩
  | 26 => ⟨S2048x5x1024x1, .f32⟩
  | 27 => ⟨S1x1x1024x16, .f32⟩
  | 28 => ⟨S2048x5x1024x16, .f32⟩
  | 29 => ⟨S2048x5x1024x16, .f32⟩
  | 30 => ⟨S2048x5x1024x16, .f32⟩
  | 31 => ⟨S2048x5x1024x16, .f32⟩
  | 32 => ⟨S2048x5x1024x1, .f32⟩
  | 33 => ⟨S2048x5x1x16, .f32⟩
  | 34 => ⟨S2048x5x1024x16, .f32⟩
  | 35 => ⟨S2048x5x1024x16, .f32⟩
  | 36 => ⟨S2048x5x1024x16, .f32⟩
  | 37 => ⟨S2048x5x1024x1, .f32⟩
  | 38 => ⟨S2048x5x1024x16, .f32⟩
  | 39 => ⟨S2048x5x1024x16, .f32⟩
  | 40 => ⟨S_, .f32⟩
  | 41 => ⟨S2048x1024x16, .f32⟩
  | 42 => ⟨S2048x1x1024x16, .f32⟩
  | 43 => ⟨S2048x1024x16, .f32⟩
  | 44 => ⟨S2048x1x1024x16, .f32⟩
  | 45 => ⟨S2048x1024x16, .f32⟩
  | 46 => ⟨S2048x1x16, .f32⟩
  | 47 => ⟨S2048x16, .f32⟩
  | 48 => ⟨S2048x1024x16, .f32⟩
  | 49 => ⟨S2048x1024x16, .f32⟩
  | 50 => ⟨S2048x1024, .f32⟩
  | 51 => ⟨S2048x1x1024x16, .f32⟩
  | 52 => ⟨S2048x1024x16, .f32⟩
  | 53 => ⟨S2048x1x1024x16, .f32⟩
  | 54 => ⟨S2048x1024x16, .f32⟩
  | 55 => ⟨S2048x1x16, .f32⟩
  | 56 => ⟨S2048x16, .f32⟩
  | 57 => ⟨S2048x1024x16, .f32⟩
  | 58 => ⟨S2048x1024x16, .f32⟩
  | 59 => ⟨S2048x1024, .f32⟩
  | 60 => ⟨S2048x1x1024x16, .f32⟩
  | 61 => ⟨S2048x1024x16, .f32⟩
  | 62 => ⟨S2048x1x1024x16, .f32⟩
  | 63 => ⟨S2048x1024x16, .f32⟩
  | 64 => ⟨S2048x1x16, .f32⟩
  | 65 => ⟨S2048x16, .f32⟩
  | 66 => ⟨S2048x1024x16, .f32⟩
  | 67 => ⟨S2048x1024x16, .f32⟩
  | 68 => ⟨S2048x1024, .f32⟩
  | 69 => ⟨S2048x1x1024x16, .f32⟩
  | 70 => ⟨S2048x1024x16, .f32⟩
  | 71 => ⟨S2048x1x1024x16, .f32⟩
  | 72 => ⟨S2048x1024x16, .f32⟩
  | 73 => ⟨S2048x1x16, .f32⟩
  | 74 => ⟨S2048x16, .f32⟩
  | 75 => ⟨S2048x1024x16, .f32⟩
  | 76 => ⟨S2048x1024x16, .f32⟩
  | 77 => ⟨S2048x1024, .f32⟩
  | 78 => ⟨S2048x1x1024x16, .f32⟩
  | 79 => ⟨S2048x1024x16, .f32⟩
  | 80 => ⟨S2048x1x1024x16, .f32⟩
  | 81 => ⟨S2048x1024x16, .f32⟩
  | 82 => ⟨S2048x1x16, .f32⟩
  | 83 => ⟨S2048x16, .f32⟩
  | 84 => ⟨S2048x1024x16, .f32⟩
  | 85 => ⟨S2048x1024x16, .f32⟩
  | 86 => ⟨S2048x1024, .f32⟩
  | 87 => ⟨S2048x1x1024, .f32⟩
  | 88 => ⟨S2048x1x1024, .f32⟩
  | 89 => ⟨S2048x1x1024, .f32⟩
  | 90 => ⟨S2048x1x1024, .f32⟩
  | 91 => ⟨S2048x1x1024, .f32⟩
  | 92 => ⟨S2048x5x1024, .f32⟩
  | 93 => ⟨S1x1x1024, .f32⟩
  | 94 => ⟨S2048x5x1024, .f32⟩
  | 95 => ⟨S2048x5x1024, .f32⟩
  | 96 => ⟨S2048x5x1024, .f32⟩
  | 97 => ⟨S2048x5x1024, .f32⟩
  | 98 => ⟨S2048x5x1024, .f32⟩
  | 99 => ⟨S_, .f32⟩
  | 100 => ⟨S2048x5x1024, .f32⟩
  | 101 => ⟨S2048x5x1024, .f32⟩
  | 102 => ⟨S_, .f32⟩
  | 103 => ⟨S2048x5x1024, .f32⟩
  | 104 => ⟨S2048x5x1024, .f32⟩
  | 105 => ⟨S2048x5x1024, .f32⟩
  | 106 => ⟨S2048x5x1024, .f32⟩
  | 107 => ⟨S1024x512, .f32⟩
  | 108 => ⟨S2048x5x512, .f32⟩
  | 109 => ⟨S_, .f32⟩
  | 110 => ⟨S2048x5, .f32⟩
  | 111 => ⟨S_, .f32⟩
  | 112 => ⟨S2048x5, .f32⟩
  | 113 => ⟨S_, .f32⟩
  | 114 => ⟨S2048x5, .f32⟩
  | 115 => ⟨S2048x5, .f32⟩
  | 116 => ⟨S2048x5, .f32⟩
  | 117 => ⟨S5x5, .f32⟩
  | 118 => ⟨S2048x5, .f32⟩
  | 119 => ⟨S1x5, .f32⟩
  | 120 => ⟨S2048x5, .f32⟩
  | 121 => ⟨S2048x5, .f32⟩
  | 122 => ⟨S_, .f32⟩
  | 123 => ⟨S2048, .f32⟩
  | 124 => ⟨S_, .f32⟩
  | 125 => ⟨S2048, .f32⟩
  | 126 => ⟨S2048, .f32⟩
  | 127 => ⟨S2048x1, .f32⟩
  | _ => ⟨S2048x5x512, .f32⟩

abbrev hbmTy0_3 (i : Nat) : BufTy := match i % 128 with
  | 0 => ⟨S2048x5, .f32⟩
  | 1 => ⟨S2048x5, .f32⟩
  | 2 => ⟨S2048x5, .f32⟩
  | 3 => ⟨S_, .f32⟩
  | 4 => ⟨S2048, .f32⟩
  | 5 => ⟨S2048x1, .f32⟩
  | 6 => ⟨S2048x5, .f32⟩
  | 7 => ⟨S2048x5, .f32⟩
  | 8 => ⟨S2048x5x1, .f32⟩
  | 9 => ⟨S2048x5x512, .f32⟩
  | 10 => ⟨S2048x5x512, .f32⟩
  | 11 => ⟨S_, .f32⟩
  | 12 => ⟨S2048x512, .f32⟩
  | 13 => ⟨S2048x512, .f32⟩
  | 14 => ⟨S512x2048, .f32⟩
  | 15 => ⟨S2048x5x2048, .f32⟩
  | 16 => ⟨S2048x5x1024, .f32⟩
  | 17 => ⟨S2048x5x1024, .f32⟩
  | 18 => ⟨S_, .i32⟩
  | 19 => ⟨S_, .f32⟩
  | 20 => ⟨S2048x8x1024, .f32⟩
  | 21 => ⟨S2048x5x1024, .f32⟩
  | 22 => ⟨S1024x1, .f32⟩
  | 23 => ⟨S1024, .f32⟩
  | 24 => ⟨S1x1x1024, .f32⟩
  | 25 => ⟨S2048x5x1024, .f32⟩
  | 26 => ⟨S2048x5x1024, .f32⟩
  | 27 => ⟨S_, .f32⟩
  | 28 => ⟨S2048x5x1024, .f32⟩
  | 29 => ⟨S2048x5x1024, .f32⟩
  | 30 => ⟨S2048x5x1024, .f32⟩
  | 31 => ⟨S1024x1, .f32⟩
  | 32 => ⟨S1024, .f32⟩
  | 33 => ⟨S1x1x1024, .f32⟩
  | 34 => ⟨S2048x5x1024, .f32⟩
  | 35 => ⟨S2048x5x1024, .f32⟩
  | 36 => ⟨S2048x5x1024, .f32⟩
  | 37 => ⟨S2048x5x1024, .f32⟩
  | 38 => ⟨S1024x1, .f32⟩
  | 39 => ⟨S1024, .f32⟩
  | 40 => ⟨S1x1x1024, .f32⟩
  | 41 => ⟨S2048x5x1024, .f32⟩
  | 42 => ⟨S2048x5x1024, .f32⟩
  | 43 => ⟨S2048x5x1024, .f32⟩
  | 44 => ⟨S2048x5x1024, .f32⟩
  | 45 => ⟨S1024x1, .f32⟩
  | 46 => ⟨S1024, .f32⟩
  | 47 => ⟨S1x1x1024, .f32⟩
  | 48 => ⟨S2048x5x1024, .f32⟩
  | 49 => ⟨S2048x5x1024, .f32⟩
  | 50 => ⟨S2048x5x1024, .f32⟩
  | 51 => ⟨S1x1x1024, .f32⟩
  | 52 => ⟨S2048x5x1024, .f32⟩
  | 53 => ⟨S2048x5x1024, .f32⟩
  | 54 => ⟨S2048x5x1024, .f32⟩
  | 55 => ⟨S2048x5x1024, .f32⟩
  | 56 => ⟨S_, .f32⟩
  | 57 => ⟨S2048x5x1024, .f32⟩
  | 58 => ⟨S2048x5x1024, .f32⟩
  | 59 => ⟨S_, .f32⟩
  | 60 => ⟨S2048x5x1024, .f32⟩
  | 61 => ⟨S2048x5x1024, .f32⟩
  | 62 => ⟨S2048x5x1024, .f32⟩
  | 63 => ⟨S1024x64, .f32⟩
  | 64 => ⟨S2048x5x64, .f32⟩
  | 65 => ⟨S2048x5x32, .f32⟩
  | 66 => ⟨S2048x5x16, .f32⟩
  | 67 => ⟨S2048x5x16, .f32⟩
  | 68 => ⟨S32x1024, .f32⟩
  | 69 => ⟨S2048x5x1024, .f32⟩
  | 70 => ⟨S1x1x1024, .f32⟩
  | 71 => ⟨S2048x5x1024, .f32⟩
  | 72 => ⟨S2048x5x1024, .f32⟩
  | 73 => ⟨S_, .f32⟩
  | 74 => ⟨S2048x5x1024, .f32⟩
  | 75 => ⟨S2048x5x1024, .f32⟩
  | 76 => ⟨S2048x5x1024, .f32⟩
  | 77 => ⟨S2048x5x1024, .f32⟩
  | 78 => ⟨S2048x5x1024, .i1⟩
  | 79 => ⟨S2048x5x1024, .f32⟩
  | 80 => ⟨S2048x5x1024, .f32⟩
  | 81 => ⟨S2048x5x1024, .f32⟩
  | 82 => ⟨S2048x5x1024, .f32⟩
  | 83 => ⟨S2048x5x1024, .f32⟩
  | 84 => ⟨S2048x5x1024, .f32⟩
  | 85 => ⟨S2048x5x1024, .f32⟩
  | 86 => ⟨S2048x5x1024, .f32⟩
  | 87 => ⟨S1024x16, .f32⟩
  | 88 => ⟨S1024x16, .f32⟩
  | 89 => ⟨S2048x5x1024x1, .f32⟩
  | 90 => ⟨S1x1x1024x16, .f32⟩
  | 91 => ⟨S2048x5x1024x16, .f32⟩
  | 92 => ⟨S2048x5x1024x16, .f32⟩
  | 93 => ⟨S2048x5x1024x16, .f32⟩
  | 94 => ⟨S2048x5x1024x16, .f32⟩
  | 95 => ⟨S2048x5x1024x1, .f32⟩
  | 96 => ⟨S2048x5x1x16, .f32⟩
  | 97 => ⟨S2048x5x1024x16, .f32⟩
  | 98 => ⟨S2048x5x1024x16, .f32⟩
  | 99 => ⟨S2048x5x1024x16, .f32⟩
  | 100 => ⟨S2048x5x1024x1, .f32⟩
  | 101 => ⟨S2048x5x1024x16, .f32⟩
  | 102 => ⟨S2048x5x1024x16, .f32⟩
  | 103 => ⟨S_, .f32⟩
  | 104 => ⟨S2048x1024x16, .f32⟩
  | 105 => ⟨S2048x1x1024x16, .f32⟩
  | 106 => ⟨S2048x1024x16, .f32⟩
  | 107 => ⟨S2048x1x1024x16, .f32⟩
  | 108 => ⟨S2048x1024x16, .f32⟩
  | 109 => ⟨S2048x1x16, .f32⟩
  | 110 => ⟨S2048x16, .f32⟩
  | 111 => ⟨S2048x1024x16, .f32⟩
  | 112 => ⟨S2048x1024x16, .f32⟩
  | 113 => ⟨S2048x1024, .f32⟩
  | 114 => ⟨S2048x1x1024x16, .f32⟩
  | 115 => ⟨S2048x1024x16, .f32⟩
  | 116 => ⟨S2048x1x1024x16, .f32⟩
  | 117 => ⟨S2048x1024x16, .f32⟩
  | 118 => ⟨S2048x1x16, .f32⟩
  | 119 => ⟨S2048x16, .f32⟩
  | 120 => ⟨S2048x1024x16, .f32⟩
  | 121 => ⟨S2048x1024x16, .f32⟩
  | 122 => ⟨S2048x1024, .f32⟩
  | 123 => ⟨S2048x1x1024x16, .f32⟩
  | 124 => ⟨S2048x1024x16, .f32⟩
  | 125 => ⟨S2048x1x1024x16, .f32⟩
  | 126 => ⟨S2048x1024x16, .f32⟩
  | 127 => ⟨S2048x1x16, .f32⟩
  | _ => ⟨S2048x5x512, .f32⟩

abbrev hbmTy0_4 (i : Nat) : BufTy := match i % 128 with
  | 0 => ⟨S2048x16, .f32⟩
  | 1 => ⟨S2048x1024x16, .f32⟩
  | 2 => ⟨S2048x1024x16, .f32⟩
  | 3 => ⟨S2048x1024, .f32⟩
  | 4 => ⟨S2048x1x1024x16, .f32⟩
  | 5 => ⟨S2048x1024x16, .f32⟩
  | 6 => ⟨S2048x1x1024x16, .f32⟩
  | 7 => ⟨S2048x1024x16, .f32⟩
  | 8 => ⟨S2048x1x16, .f32⟩
  | 9 => ⟨S2048x16, .f32⟩
  | 10 => ⟨S2048x1024x16, .f32⟩
  | 11 => ⟨S2048x1024x16, .f32⟩
  | 12 => ⟨S2048x1024, .f32⟩
  | 13 => ⟨S2048x1x1024x16, .f32⟩
  | 14 => ⟨S2048x1024x16, .f32⟩
  | 15 => ⟨S2048x1x1024x16, .f32⟩
  | 16 => ⟨S2048x1024x16, .f32⟩
  | 17 => ⟨S2048x1x16, .f32⟩
  | 18 => ⟨S2048x16, .f32⟩
  | 19 => ⟨S2048x1024x16, .f32⟩
  | 20 => ⟨S2048x1024x16, .f32⟩
  | 21 => ⟨S2048x1024, .f32⟩
  | 22 => ⟨S2048x1x1024, .f32⟩
  | 23 => ⟨S2048x1x1024, .f32⟩
  | 24 => ⟨S2048x1x1024, .f32⟩
  | 25 => ⟨S2048x1x1024, .f32⟩
  | 26 => ⟨S2048x1x1024, .f32⟩
  | 27 => ⟨S2048x5x1024, .f32⟩
  | 28 => ⟨S1x1x1024, .f32⟩
  | 29 => ⟨S2048x5x1024, .f32⟩
  | 30 => ⟨S2048x5x1024, .f32⟩
  | 31 => ⟨S2048x5x1024, .f32⟩
  | 32 => ⟨S2048x5x1024, .f32⟩
  | 33 => ⟨S2048x5x1024, .f32⟩
  | 34 => ⟨S_, .f32⟩
  | 35 => ⟨S2048x5x1024, .f32⟩
  | 36 => ⟨S2048x5x1024, .f32⟩
  | 37 => ⟨S_, .f32⟩
  | 38 => ⟨S2048x5x1024, .f32⟩
  | 39 => ⟨S2048x5x1024, .f32⟩
  | 40 => ⟨S2048x5x1024, .f32⟩
  | 41 => ⟨S2048x5x1024, .f32⟩
  | 42 => ⟨S1024x512, .f32⟩
  | 43 => ⟨S2048x5x512, .f32⟩
  | 44 => ⟨S_, .f32⟩
  | 45 => ⟨S2048x5, .f32⟩
  | 46 => ⟨S_, .f32⟩
  | 47 => ⟨S2048x5, .f32⟩
  | 48 => ⟨S_, .f32⟩
  | 49 => ⟨S2048x5, .f32⟩
  | 50 => ⟨S2048x5, .f32⟩
  | 51 => ⟨S2048x5, .f32⟩
  | 52 => ⟨S5x5, .f32⟩
  | 53 => ⟨S2048x5, .f32⟩
  | 54 => ⟨S1x5, .f32⟩
  | 55 => ⟨S2048x5, .f32⟩
  | 56 => ⟨S2048x5, .f32⟩
  | 57 => ⟨S_, .f32⟩
  | 58 => ⟨S2048, .f32⟩
  | 59 => ⟨S_, .f32⟩
  | 60 => ⟨S2048, .f32⟩
  | 61 => ⟨S2048, .f32⟩
  | 62 => ⟨S2048x1, .f32⟩
  | 63 => ⟨S2048x5, .f32⟩
  | 64 => ⟨S2048x5, .f32⟩
  | 65 => ⟨S2048x5, .f32⟩
  | 66 => ⟨S_, .f32⟩
  | 67 => ⟨S2048, .f32⟩
  | 68 => ⟨S2048x1, .f32⟩
  | 69 => ⟨S2048x5, .f32⟩
  | 70 => ⟨S2048x5, .f32⟩
  | 71 => ⟨S2048x5x1, .f32⟩
  | 72 => ⟨S2048x5x512, .f32⟩
  | 73 => ⟨S2048x5x512, .f32⟩
  | 74 => ⟨S_, .f32⟩
  | 75 => ⟨S2048x512, .f32⟩
  | 76 => ⟨S2048x512, .f32⟩
  | 77 => ⟨S_, .f32⟩
  | 78 => ⟨S2048x2, .f32⟩
  | 79 => ⟨S_, .f32⟩
  | 80 => ⟨S2048x2, .f32⟩
  | 81 => ⟨S_, .f32⟩
  | 82 => ⟨S2048x2, .f32⟩
  | 83 => ⟨S2048x2, .f32⟩
  | 84 => ⟨S2048x2, .f32⟩
  | 85 => ⟨S2x2, .f32⟩
  | 86 => ⟨S2048x2, .f32⟩
  | 87 => ⟨S1x2, .f32⟩
  | 88 => ⟨S2048x2, .f32⟩
  | 89 => ⟨S2048x2, .f32⟩
  | 90 => ⟨S_, .f32⟩
  | 91 => ⟨S2048, .f32⟩
  | 92 => ⟨S_, .f32⟩
  | 93 => ⟨S2048, .f32⟩
  | 94 => ⟨S2048, .f32⟩
  | 95 => ⟨S2048x1, .f32⟩
  | 96 => ⟨S2048x2, .f32⟩
  | 97 => ⟨S2048x2, .f32⟩
  | 98 => ⟨S2048x2, .f32⟩
  | 99 => ⟨S_, .f32⟩
  | 100 => ⟨S2048, .f32⟩
  | 101 => ⟨S2048x1, .f32⟩
  | 102 => ⟨S2048x2, .f32⟩
  | 103 => ⟨S2048x2, .f32⟩
  | 104 => ⟨S2048x2x1, .f32⟩
  | 105 => ⟨S2048x2x512, .f32⟩
  | 106 => ⟨S2048x2x512, .f32⟩
  | 107 => ⟨S_, .f32⟩
  | 108 => ⟨S2048x512, .f32⟩
  | 109 => ⟨S2048x512, .f32⟩
  | _ => ⟨S2048x5x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2048x5x512, .f32⟩

abbrev bufTy : (tb : Table) → Fin (tcTables nBuf tb) → BufTy
  | .hbm, ⟨i, _⟩ => hbmTy i
  | _, _ => ⟨S2048x5x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call2_cst : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_0 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_call3_v0 : Ref sig .tc := ⟨.hbm, 163, rfl⟩
abbrev main_call3_v1 : Ref sig .tc := ⟨.hbm, 164, rfl⟩
abbrev main_call3_cst : Ref sig .tc := ⟨.hbm, 165, rfl⟩
abbrev main_call3_v2 : Ref sig .tc := ⟨.hbm, 166, rfl⟩
abbrev main_call3_v3 : Ref sig .tc := ⟨.hbm, 167, rfl⟩
abbrev main_call3_cst_0 : Ref sig .tc := ⟨.hbm, 168, rfl⟩
abbrev main_call3_v4 : Ref sig .tc := ⟨.hbm, 169, rfl⟩
abbrev main_call3_v5 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_cst_1 : Ref sig .tc := ⟨.hbm, 175, rfl⟩
abbrev main_v125 : Ref sig .tc := ⟨.hbm, 176, rfl⟩
abbrev main_cst_2 : Ref sig .tc := ⟨.hbm, 177, rfl⟩
abbrev main_v126 : Ref sig .tc := ⟨.hbm, 178, rfl⟩
abbrev main_cst_3 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_cst_4 : Ref sig .tc := ⟨.hbm, 188, rfl⟩
abbrev main_v135 : Ref sig .tc := ⟨.hbm, 189, rfl⟩
abbrev main_cst_5 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_cst_6 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_cst_7 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_c_8 : Ref sig .tc := ⟨.hbm, 211, rfl⟩
abbrev main_call4_v0 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_cst_9 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_call5_v0 : Ref sig .tc := ⟨.hbm, 247, rfl⟩
abbrev main_call5_v1 : Ref sig .tc := ⟨.hbm, 248, rfl⟩
abbrev main_call5_cst : Ref sig .tc := ⟨.hbm, 249, rfl⟩
abbrev main_call5_v2 : Ref sig .tc := ⟨.hbm, 250, rfl⟩
abbrev main_call5_v3 : Ref sig .tc := ⟨.hbm, 251, rfl⟩
abbrev main_call5_cst_0 : Ref sig .tc := ⟨.hbm, 252, rfl⟩
abbrev main_call5_v4 : Ref sig .tc := ⟨.hbm, 253, rfl⟩
abbrev main_call5_v5 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_call6_cst : Ref sig .tc := ⟨.hbm, 266, rfl⟩
abbrev main_call6_v0 : Ref sig .tc := ⟨.hbm, 267, rfl⟩
abbrev main_call6_v1 : Ref sig .tc := ⟨.hbm, 268, rfl⟩
abbrev main_call6_v2 : Ref sig .tc := ⟨.hbm, 269, rfl⟩
abbrev main_call6_v3 : Ref sig .tc := ⟨.hbm, 270, rfl⟩
abbrev main_call6_v4 : Ref sig .tc := ⟨.hbm, 271, rfl⟩
abbrev main_call6_v5 : Ref sig .tc := ⟨.hbm, 272, rfl⟩
abbrev main_call6_v6 : Ref sig .tc := ⟨.hbm, 273, rfl⟩
abbrev main_call6_v7 : Ref sig .tc := ⟨.hbm, 274, rfl⟩
abbrev main_call6_v8 : Ref sig .tc := ⟨.hbm, 275, rfl⟩
abbrev main_call6_v9 : Ref sig .tc := ⟨.hbm, 276, rfl⟩
abbrev main_call6_v10 : Ref sig .tc := ⟨.hbm, 277, rfl⟩
abbrev main_call6_v11 : Ref sig .tc := ⟨.hbm, 278, rfl⟩
abbrev main_v198 : Ref sig .tc := ⟨.hbm, 279, rfl⟩
abbrev main_v199 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_v208 : Ref sig .tc := ⟨.hbm, 289, rfl⟩
abbrev main_v209 : Ref sig .tc := ⟨.hbm, 290, rfl⟩
abbrev main_v210 : Ref sig .tc := ⟨.hbm, 291, rfl⟩
abbrev main_v211 : Ref sig .tc := ⟨.hbm, 292, rfl⟩
abbrev main_v212 : Ref sig .tc := ⟨.hbm, 293, rfl⟩
abbrev main_v213 : Ref sig .tc := ⟨.hbm, 294, rfl⟩
abbrev main_v214 : Ref sig .tc := ⟨.hbm, 295, rfl⟩
abbrev main_cst_10 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_v219 : Ref sig .tc := ⟨.hbm, 301, rfl⟩
abbrev main_v220 : Ref sig .tc := ⟨.hbm, 302, rfl⟩
abbrev main_v221 : Ref sig .tc := ⟨.hbm, 303, rfl⟩
abbrev main_v222 : Ref sig .tc := ⟨.hbm, 304, rfl⟩
abbrev main_v223 : Ref sig .tc := ⟨.hbm, 305, rfl⟩
abbrev main_v224 : Ref sig .tc := ⟨.hbm, 306, rfl⟩
abbrev main_v225 : Ref sig .tc := ⟨.hbm, 307, rfl⟩
abbrev main_v226 : Ref sig .tc := ⟨.hbm, 308, rfl⟩
abbrev main_v227 : Ref sig .tc := ⟨.hbm, 309, rfl⟩
abbrev main_v228 : Ref sig .tc := ⟨.hbm, 310, rfl⟩
abbrev main_v229 : Ref sig .tc := ⟨.hbm, 311, rfl⟩
abbrev main_v230 : Ref sig .tc := ⟨.hbm, 312, rfl⟩
abbrev main_v231 : Ref sig .tc := ⟨.hbm, 313, rfl⟩
abbrev main_v232 : Ref sig .tc := ⟨.hbm, 314, rfl⟩
abbrev main_v233 : Ref sig .tc := ⟨.hbm, 315, rfl⟩
abbrev main_v234 : Ref sig .tc := ⟨.hbm, 316, rfl⟩
abbrev main_v235 : Ref sig .tc := ⟨.hbm, 317, rfl⟩
abbrev main_v236 : Ref sig .tc := ⟨.hbm, 318, rfl⟩
abbrev main_v237 : Ref sig .tc := ⟨.hbm, 319, rfl⟩
abbrev main_v238 : Ref sig .tc := ⟨.hbm, 320, rfl⟩
abbrev main_v239 : Ref sig .tc := ⟨.hbm, 321, rfl⟩
abbrev main_v240 : Ref sig .tc := ⟨.hbm, 322, rfl⟩
abbrev main_v241 : Ref sig .tc := ⟨.hbm, 323, rfl⟩
abbrev main_v242 : Ref sig .tc := ⟨.hbm, 324, rfl⟩
abbrev main_v243 : Ref sig .tc := ⟨.hbm, 325, rfl⟩
abbrev main_v244 : Ref sig .tc := ⟨.hbm, 326, rfl⟩
abbrev main_v245 : Ref sig .tc := ⟨.hbm, 327, rfl⟩
abbrev main_v246 : Ref sig .tc := ⟨.hbm, 328, rfl⟩
abbrev main_v247 : Ref sig .tc := ⟨.hbm, 329, rfl⟩
abbrev main_v248 : Ref sig .tc := ⟨.hbm, 330, rfl⟩
abbrev main_v249 : Ref sig .tc := ⟨.hbm, 331, rfl⟩
abbrev main_v250 : Ref sig .tc := ⟨.hbm, 332, rfl⟩
abbrev main_v251 : Ref sig .tc := ⟨.hbm, 333, rfl⟩
abbrev main_v252 : Ref sig .tc := ⟨.hbm, 334, rfl⟩
abbrev main_v253 : Ref sig .tc := ⟨.hbm, 335, rfl⟩
abbrev main_v254 : Ref sig .tc := ⟨.hbm, 336, rfl⟩
abbrev main_v255 : Ref sig .tc := ⟨.hbm, 337, rfl⟩
abbrev main_v256 : Ref sig .tc := ⟨.hbm, 338, rfl⟩
abbrev main_v257 : Ref sig .tc := ⟨.hbm, 339, rfl⟩
abbrev main_v258 : Ref sig .tc := ⟨.hbm, 340, rfl⟩
abbrev main_v259 : Ref sig .tc := ⟨.hbm, 341, rfl⟩
abbrev main_v260 : Ref sig .tc := ⟨.hbm, 342, rfl⟩
abbrev main_v261 : Ref sig .tc := ⟨.hbm, 343, rfl⟩
abbrev main_v262 : Ref sig .tc := ⟨.hbm, 344, rfl⟩
abbrev main_v263 : Ref sig .tc := ⟨.hbm, 345, rfl⟩
abbrev main_v264 : Ref sig .tc := ⟨.hbm, 346, rfl⟩
abbrev main_v265 : Ref sig .tc := ⟨.hbm, 347, rfl⟩
abbrev main_v266 : Ref sig .tc := ⟨.hbm, 348, rfl⟩
abbrev main_v267 : Ref sig .tc := ⟨.hbm, 349, rfl⟩
abbrev main_v268 : Ref sig .tc := ⟨.hbm, 350, rfl⟩
abbrev main_v269 : Ref sig .tc := ⟨.hbm, 351, rfl⟩
abbrev main_v270 : Ref sig .tc := ⟨.hbm, 352, rfl⟩
abbrev main_call7_v0 : Ref sig .tc := ⟨.hbm, 353, rfl⟩
abbrev main_call7_v1 : Ref sig .tc := ⟨.hbm, 354, rfl⟩
abbrev main_call7_cst : Ref sig .tc := ⟨.hbm, 355, rfl⟩
abbrev main_call7_v2 : Ref sig .tc := ⟨.hbm, 356, rfl⟩
abbrev main_call7_v3 : Ref sig .tc := ⟨.hbm, 357, rfl⟩
abbrev main_call7_cst_0 : Ref sig .tc := ⟨.hbm, 358, rfl⟩
abbrev main_call7_v4 : Ref sig .tc := ⟨.hbm, 359, rfl⟩
abbrev main_call7_v5 : Ref sig .tc := ⟨.hbm, 360, rfl⟩
abbrev main_v271 : Ref sig .tc := ⟨.hbm, 361, rfl⟩
abbrev main_v272 : Ref sig .tc := ⟨.hbm, 362, rfl⟩
abbrev main_v273 : Ref sig .tc := ⟨.hbm, 363, rfl⟩
abbrev main_v274 : Ref sig .tc := ⟨.hbm, 364, rfl⟩
abbrev main_cst_11 : Ref sig .tc := ⟨.hbm, 365, rfl⟩
abbrev main_v275 : Ref sig .tc := ⟨.hbm, 366, rfl⟩
abbrev main_cst_12 : Ref sig .tc := ⟨.hbm, 367, rfl⟩
abbrev main_v276 : Ref sig .tc := ⟨.hbm, 368, rfl⟩
abbrev main_cst_13 : Ref sig .tc := ⟨.hbm, 369, rfl⟩
abbrev main_v277 : Ref sig .tc := ⟨.hbm, 370, rfl⟩
abbrev main_v278 : Ref sig .tc := ⟨.hbm, 371, rfl⟩
abbrev main_v279 : Ref sig .tc := ⟨.hbm, 372, rfl⟩
abbrev main_v280 : Ref sig .tc := ⟨.hbm, 373, rfl⟩
abbrev main_v281 : Ref sig .tc := ⟨.hbm, 374, rfl⟩
abbrev main_v282 : Ref sig .tc := ⟨.hbm, 375, rfl⟩
abbrev main_v283 : Ref sig .tc := ⟨.hbm, 376, rfl⟩
abbrev main_v284 : Ref sig .tc := ⟨.hbm, 377, rfl⟩
abbrev main_cst_14 : Ref sig .tc := ⟨.hbm, 378, rfl⟩
abbrev main_v285 : Ref sig .tc := ⟨.hbm, 379, rfl⟩
abbrev main_cst_15 : Ref sig .tc := ⟨.hbm, 380, rfl⟩
abbrev main_v286 : Ref sig .tc := ⟨.hbm, 381, rfl⟩
abbrev main_v287 : Ref sig .tc := ⟨.hbm, 382, rfl⟩
abbrev main_v288 : Ref sig .tc := ⟨.hbm, 383, rfl⟩
abbrev main_v289 : Ref sig .tc := ⟨.hbm, 384, rfl⟩
abbrev main_v290 : Ref sig .tc := ⟨.hbm, 385, rfl⟩
abbrev main_v291 : Ref sig .tc := ⟨.hbm, 386, rfl⟩
abbrev main_cst_16 : Ref sig .tc := ⟨.hbm, 387, rfl⟩
abbrev main_v292 : Ref sig .tc := ⟨.hbm, 388, rfl⟩
abbrev main_v293 : Ref sig .tc := ⟨.hbm, 389, rfl⟩
abbrev main_v294 : Ref sig .tc := ⟨.hbm, 390, rfl⟩
abbrev main_v295 : Ref sig .tc := ⟨.hbm, 391, rfl⟩
abbrev main_v296 : Ref sig .tc := ⟨.hbm, 392, rfl⟩
abbrev main_v297 : Ref sig .tc := ⟨.hbm, 393, rfl⟩
abbrev main_v298 : Ref sig .tc := ⟨.hbm, 394, rfl⟩
abbrev main_cst_17 : Ref sig .tc := ⟨.hbm, 395, rfl⟩
abbrev main_v299 : Ref sig .tc := ⟨.hbm, 396, rfl⟩
abbrev main_v300 : Ref sig .tc := ⟨.hbm, 397, rfl⟩
abbrev main_v301 : Ref sig .tc := ⟨.hbm, 398, rfl⟩
abbrev main_v302 : Ref sig .tc := ⟨.hbm, 399, rfl⟩
abbrev main_v303 : Ref sig .tc := ⟨.hbm, 400, rfl⟩
abbrev main_v304 : Ref sig .tc := ⟨.hbm, 401, rfl⟩
abbrev main_c_18 : Ref sig .tc := ⟨.hbm, 402, rfl⟩
abbrev main_call8_v0 : Ref sig .tc := ⟨.hbm, 403, rfl⟩
abbrev main_v305 : Ref sig .tc := ⟨.hbm, 404, rfl⟩
abbrev main_v306 : Ref sig .tc := ⟨.hbm, 405, rfl⟩
abbrev main_v307 : Ref sig .tc := ⟨.hbm, 406, rfl⟩
abbrev main_v308 : Ref sig .tc := ⟨.hbm, 407, rfl⟩
abbrev main_v309 : Ref sig .tc := ⟨.hbm, 408, rfl⟩
abbrev main_v310 : Ref sig .tc := ⟨.hbm, 409, rfl⟩
abbrev main_v311 : Ref sig .tc := ⟨.hbm, 410, rfl⟩
abbrev main_cst_19 : Ref sig .tc := ⟨.hbm, 411, rfl⟩
abbrev main_v312 : Ref sig .tc := ⟨.hbm, 412, rfl⟩
abbrev main_v313 : Ref sig .tc := ⟨.hbm, 413, rfl⟩
abbrev main_v314 : Ref sig .tc := ⟨.hbm, 414, rfl⟩
abbrev main_v315 : Ref sig .tc := ⟨.hbm, 415, rfl⟩
abbrev main_v316 : Ref sig .tc := ⟨.hbm, 416, rfl⟩
abbrev main_v317 : Ref sig .tc := ⟨.hbm, 417, rfl⟩
abbrev main_v318 : Ref sig .tc := ⟨.hbm, 418, rfl⟩
abbrev main_v319 : Ref sig .tc := ⟨.hbm, 419, rfl⟩
abbrev main_v320 : Ref sig .tc := ⟨.hbm, 420, rfl⟩
abbrev main_v321 : Ref sig .tc := ⟨.hbm, 421, rfl⟩
abbrev main_v322 : Ref sig .tc := ⟨.hbm, 422, rfl⟩
abbrev main_v323 : Ref sig .tc := ⟨.hbm, 423, rfl⟩
abbrev main_v324 : Ref sig .tc := ⟨.hbm, 424, rfl⟩
abbrev main_v325 : Ref sig .tc := ⟨.hbm, 425, rfl⟩
abbrev main_v326 : Ref sig .tc := ⟨.hbm, 426, rfl⟩
abbrev main_v327 : Ref sig .tc := ⟨.hbm, 427, rfl⟩
abbrev main_v328 : Ref sig .tc := ⟨.hbm, 428, rfl⟩
abbrev main_v329 : Ref sig .tc := ⟨.hbm, 429, rfl⟩
abbrev main_v330 : Ref sig .tc := ⟨.hbm, 430, rfl⟩
abbrev main_v331 : Ref sig .tc := ⟨.hbm, 431, rfl⟩
abbrev main_v332 : Ref sig .tc := ⟨.hbm, 432, rfl⟩
abbrev main_v333 : Ref sig .tc := ⟨.hbm, 433, rfl⟩
abbrev main_v334 : Ref sig .tc := ⟨.hbm, 434, rfl⟩
abbrev main_v335 : Ref sig .tc := ⟨.hbm, 435, rfl⟩
abbrev main_v336 : Ref sig .tc := ⟨.hbm, 436, rfl⟩
abbrev main_v337 : Ref sig .tc := ⟨.hbm, 437, rfl⟩
abbrev main_call9_v0 : Ref sig .tc := ⟨.hbm, 438, rfl⟩
abbrev main_call9_v1 : Ref sig .tc := ⟨.hbm, 439, rfl⟩
abbrev main_call9_cst : Ref sig .tc := ⟨.hbm, 440, rfl⟩
abbrev main_call9_v2 : Ref sig .tc := ⟨.hbm, 441, rfl⟩
abbrev main_call9_v3 : Ref sig .tc := ⟨.hbm, 442, rfl⟩
abbrev main_call9_cst_0 : Ref sig .tc := ⟨.hbm, 443, rfl⟩
abbrev main_call9_v4 : Ref sig .tc := ⟨.hbm, 444, rfl⟩
abbrev main_call9_v5 : Ref sig .tc := ⟨.hbm, 445, rfl⟩
abbrev main_v338 : Ref sig .tc := ⟨.hbm, 446, rfl⟩
abbrev main_v339 : Ref sig .tc := ⟨.hbm, 447, rfl⟩
abbrev main_v340 : Ref sig .tc := ⟨.hbm, 448, rfl⟩
abbrev main_v341 : Ref sig .tc := ⟨.hbm, 449, rfl⟩
abbrev main_v342 : Ref sig .tc := ⟨.hbm, 450, rfl⟩
abbrev main_v343 : Ref sig .tc := ⟨.hbm, 451, rfl⟩
abbrev main_v344 : Ref sig .tc := ⟨.hbm, 452, rfl⟩
abbrev main_v345 : Ref sig .tc := ⟨.hbm, 453, rfl⟩
abbrev main_v346 : Ref sig .tc := ⟨.hbm, 454, rfl⟩
abbrev main_v347 : Ref sig .tc := ⟨.hbm, 455, rfl⟩
abbrev main_v348 : Ref sig .tc := ⟨.hbm, 456, rfl⟩
abbrev main_call10_cst : Ref sig .tc := ⟨.hbm, 457, rfl⟩
abbrev main_call10_v0 : Ref sig .tc := ⟨.hbm, 458, rfl⟩
abbrev main_call10_v1 : Ref sig .tc := ⟨.hbm, 459, rfl⟩
abbrev main_call10_v2 : Ref sig .tc := ⟨.hbm, 460, rfl⟩
abbrev main_call10_v3 : Ref sig .tc := ⟨.hbm, 461, rfl⟩
abbrev main_call10_v4 : Ref sig .tc := ⟨.hbm, 462, rfl⟩
abbrev main_call10_v5 : Ref sig .tc := ⟨.hbm, 463, rfl⟩
abbrev main_call10_v6 : Ref sig .tc := ⟨.hbm, 464, rfl⟩
abbrev main_call10_v7 : Ref sig .tc := ⟨.hbm, 465, rfl⟩
abbrev main_call10_v8 : Ref sig .tc := ⟨.hbm, 466, rfl⟩
abbrev main_call10_v9 : Ref sig .tc := ⟨.hbm, 467, rfl⟩
abbrev main_call10_v10 : Ref sig .tc := ⟨.hbm, 468, rfl⟩
abbrev main_call10_v11 : Ref sig .tc := ⟨.hbm, 469, rfl⟩
abbrev main_v349 : Ref sig .tc := ⟨.hbm, 470, rfl⟩
abbrev main_v350 : Ref sig .tc := ⟨.hbm, 471, rfl⟩
abbrev main_v351 : Ref sig .tc := ⟨.hbm, 472, rfl⟩
abbrev main_v352 : Ref sig .tc := ⟨.hbm, 473, rfl⟩
abbrev main_v353 : Ref sig .tc := ⟨.hbm, 474, rfl⟩
abbrev main_v354 : Ref sig .tc := ⟨.hbm, 475, rfl⟩
abbrev main_v355 : Ref sig .tc := ⟨.hbm, 476, rfl⟩
abbrev main_v356 : Ref sig .tc := ⟨.hbm, 477, rfl⟩
abbrev main_v357 : Ref sig .tc := ⟨.hbm, 478, rfl⟩
abbrev main_v358 : Ref sig .tc := ⟨.hbm, 479, rfl⟩
abbrev main_v359 : Ref sig .tc := ⟨.hbm, 480, rfl⟩
abbrev main_v360 : Ref sig .tc := ⟨.hbm, 481, rfl⟩
abbrev main_v361 : Ref sig .tc := ⟨.hbm, 482, rfl⟩
abbrev main_v362 : Ref sig .tc := ⟨.hbm, 483, rfl⟩
abbrev main_v363 : Ref sig .tc := ⟨.hbm, 484, rfl⟩
abbrev main_v364 : Ref sig .tc := ⟨.hbm, 485, rfl⟩
abbrev main_v365 : Ref sig .tc := ⟨.hbm, 486, rfl⟩
abbrev main_cst_20 : Ref sig .tc := ⟨.hbm, 487, rfl⟩
abbrev main_v366 : Ref sig .tc := ⟨.hbm, 488, rfl⟩
abbrev main_v367 : Ref sig .tc := ⟨.hbm, 489, rfl⟩
abbrev main_v368 : Ref sig .tc := ⟨.hbm, 490, rfl⟩
abbrev main_v369 : Ref sig .tc := ⟨.hbm, 491, rfl⟩
abbrev main_v370 : Ref sig .tc := ⟨.hbm, 492, rfl⟩
abbrev main_v371 : Ref sig .tc := ⟨.hbm, 493, rfl⟩
abbrev main_v372 : Ref sig .tc := ⟨.hbm, 494, rfl⟩
abbrev main_v373 : Ref sig .tc := ⟨.hbm, 495, rfl⟩
abbrev main_v374 : Ref sig .tc := ⟨.hbm, 496, rfl⟩
abbrev main_v375 : Ref sig .tc := ⟨.hbm, 497, rfl⟩
abbrev main_v376 : Ref sig .tc := ⟨.hbm, 498, rfl⟩
abbrev main_v377 : Ref sig .tc := ⟨.hbm, 499, rfl⟩
abbrev main_v378 : Ref sig .tc := ⟨.hbm, 500, rfl⟩
abbrev main_v379 : Ref sig .tc := ⟨.hbm, 501, rfl⟩
abbrev main_v380 : Ref sig .tc := ⟨.hbm, 502, rfl⟩
abbrev main_v381 : Ref sig .tc := ⟨.hbm, 503, rfl⟩
abbrev main_v382 : Ref sig .tc := ⟨.hbm, 504, rfl⟩
abbrev main_v383 : Ref sig .tc := ⟨.hbm, 505, rfl⟩
abbrev main_v384 : Ref sig .tc := ⟨.hbm, 506, rfl⟩
abbrev main_v385 : Ref sig .tc := ⟨.hbm, 507, rfl⟩
abbrev main_v386 : Ref sig .tc := ⟨.hbm, 508, rfl⟩
abbrev main_v387 : Ref sig .tc := ⟨.hbm, 509, rfl⟩
abbrev main_v388 : Ref sig .tc := ⟨.hbm, 510, rfl⟩
abbrev main_v389 : Ref sig .tc := ⟨.hbm, 511, rfl⟩
abbrev main_v390 : Ref sig .tc := ⟨.hbm, 512, rfl⟩
abbrev main_v391 : Ref sig .tc := ⟨.hbm, 513, rfl⟩
abbrev main_v392 : Ref sig .tc := ⟨.hbm, 514, rfl⟩
abbrev main_v393 : Ref sig .tc := ⟨.hbm, 515, rfl⟩
abbrev main_v394 : Ref sig .tc := ⟨.hbm, 516, rfl⟩
abbrev main_v395 : Ref sig .tc := ⟨.hbm, 517, rfl⟩
abbrev main_v396 : Ref sig .tc := ⟨.hbm, 518, rfl⟩
abbrev main_v397 : Ref sig .tc := ⟨.hbm, 519, rfl⟩
abbrev main_v398 : Ref sig .tc := ⟨.hbm, 520, rfl⟩
abbrev main_v399 : Ref sig .tc := ⟨.hbm, 521, rfl⟩
abbrev main_v400 : Ref sig .tc := ⟨.hbm, 522, rfl⟩
abbrev main_v401 : Ref sig .tc := ⟨.hbm, 523, rfl⟩
abbrev main_v402 : Ref sig .tc := ⟨.hbm, 524, rfl⟩
abbrev main_v403 : Ref sig .tc := ⟨.hbm, 525, rfl⟩
abbrev main_v404 : Ref sig .tc := ⟨.hbm, 526, rfl⟩
abbrev main_v405 : Ref sig .tc := ⟨.hbm, 527, rfl⟩
abbrev main_v406 : Ref sig .tc := ⟨.hbm, 528, rfl⟩
abbrev main_v407 : Ref sig .tc := ⟨.hbm, 529, rfl⟩
abbrev main_v408 : Ref sig .tc := ⟨.hbm, 530, rfl⟩
abbrev main_v409 : Ref sig .tc := ⟨.hbm, 531, rfl⟩
abbrev main_v410 : Ref sig .tc := ⟨.hbm, 532, rfl⟩
abbrev main_v411 : Ref sig .tc := ⟨.hbm, 533, rfl⟩
abbrev main_v412 : Ref sig .tc := ⟨.hbm, 534, rfl⟩
abbrev main_v413 : Ref sig .tc := ⟨.hbm, 535, rfl⟩
abbrev main_v414 : Ref sig .tc := ⟨.hbm, 536, rfl⟩
abbrev main_v415 : Ref sig .tc := ⟨.hbm, 537, rfl⟩
abbrev main_v416 : Ref sig .tc := ⟨.hbm, 538, rfl⟩
abbrev main_v417 : Ref sig .tc := ⟨.hbm, 539, rfl⟩
abbrev main_v418 : Ref sig .tc := ⟨.hbm, 540, rfl⟩
abbrev main_v419 : Ref sig .tc := ⟨.hbm, 541, rfl⟩
abbrev main_v420 : Ref sig .tc := ⟨.hbm, 542, rfl⟩
abbrev main_v421 : Ref sig .tc := ⟨.hbm, 543, rfl⟩
abbrev main_call11_v0 : Ref sig .tc := ⟨.hbm, 544, rfl⟩
abbrev main_call11_v1 : Ref sig .tc := ⟨.hbm, 545, rfl⟩
abbrev main_call11_cst : Ref sig .tc := ⟨.hbm, 546, rfl⟩
abbrev main_call11_v2 : Ref sig .tc := ⟨.hbm, 547, rfl⟩
abbrev main_call11_v3 : Ref sig .tc := ⟨.hbm, 548, rfl⟩
abbrev main_call11_cst_0 : Ref sig .tc := ⟨.hbm, 549, rfl⟩
abbrev main_call11_v4 : Ref sig .tc := ⟨.hbm, 550, rfl⟩
abbrev main_call11_v5 : Ref sig .tc := ⟨.hbm, 551, rfl⟩
abbrev main_v422 : Ref sig .tc := ⟨.hbm, 552, rfl⟩
abbrev main_v423 : Ref sig .tc := ⟨.hbm, 553, rfl⟩
abbrev main_v424 : Ref sig .tc := ⟨.hbm, 554, rfl⟩
abbrev main_v425 : Ref sig .tc := ⟨.hbm, 555, rfl⟩
abbrev main_cst_21 : Ref sig .tc := ⟨.hbm, 556, rfl⟩
abbrev main_v426 : Ref sig .tc := ⟨.hbm, 557, rfl⟩
abbrev main_cst_22 : Ref sig .tc := ⟨.hbm, 558, rfl⟩
abbrev main_v427 : Ref sig .tc := ⟨.hbm, 559, rfl⟩
abbrev main_cst_23 : Ref sig .tc := ⟨.hbm, 560, rfl⟩
abbrev main_v428 : Ref sig .tc := ⟨.hbm, 561, rfl⟩
abbrev main_v429 : Ref sig .tc := ⟨.hbm, 562, rfl⟩
abbrev main_v430 : Ref sig .tc := ⟨.hbm, 563, rfl⟩
abbrev main_v431 : Ref sig .tc := ⟨.hbm, 564, rfl⟩
abbrev main_v432 : Ref sig .tc := ⟨.hbm, 565, rfl⟩
abbrev main_v433 : Ref sig .tc := ⟨.hbm, 566, rfl⟩
abbrev main_v434 : Ref sig .tc := ⟨.hbm, 567, rfl⟩
abbrev main_v435 : Ref sig .tc := ⟨.hbm, 568, rfl⟩
abbrev main_cst_24 : Ref sig .tc := ⟨.hbm, 569, rfl⟩
abbrev main_v436 : Ref sig .tc := ⟨.hbm, 570, rfl⟩
abbrev main_cst_25 : Ref sig .tc := ⟨.hbm, 571, rfl⟩
abbrev main_v437 : Ref sig .tc := ⟨.hbm, 572, rfl⟩
abbrev main_v438 : Ref sig .tc := ⟨.hbm, 573, rfl⟩
abbrev main_v439 : Ref sig .tc := ⟨.hbm, 574, rfl⟩
abbrev main_v440 : Ref sig .tc := ⟨.hbm, 575, rfl⟩
abbrev main_v441 : Ref sig .tc := ⟨.hbm, 576, rfl⟩
abbrev main_v442 : Ref sig .tc := ⟨.hbm, 577, rfl⟩
abbrev main_cst_26 : Ref sig .tc := ⟨.hbm, 578, rfl⟩
abbrev main_v443 : Ref sig .tc := ⟨.hbm, 579, rfl⟩
abbrev main_v444 : Ref sig .tc := ⟨.hbm, 580, rfl⟩
abbrev main_v445 : Ref sig .tc := ⟨.hbm, 581, rfl⟩
abbrev main_v446 : Ref sig .tc := ⟨.hbm, 582, rfl⟩
abbrev main_v447 : Ref sig .tc := ⟨.hbm, 583, rfl⟩
abbrev main_v448 : Ref sig .tc := ⟨.hbm, 584, rfl⟩
abbrev main_v449 : Ref sig .tc := ⟨.hbm, 585, rfl⟩
abbrev main_cst_27 : Ref sig .tc := ⟨.hbm, 586, rfl⟩
abbrev main_v450 : Ref sig .tc := ⟨.hbm, 587, rfl⟩
abbrev main_v451 : Ref sig .tc := ⟨.hbm, 588, rfl⟩
abbrev main_cst_28 : Ref sig .tc := ⟨.hbm, 589, rfl⟩
abbrev main_v452 : Ref sig .tc := ⟨.hbm, 590, rfl⟩
abbrev main_cst_29 : Ref sig .tc := ⟨.hbm, 591, rfl⟩
abbrev main_v453 : Ref sig .tc := ⟨.hbm, 592, rfl⟩
abbrev main_cst_30 : Ref sig .tc := ⟨.hbm, 593, rfl⟩
abbrev main_v454 : Ref sig .tc := ⟨.hbm, 594, rfl⟩
abbrev main_v455 : Ref sig .tc := ⟨.hbm, 595, rfl⟩
abbrev main_v456 : Ref sig .tc := ⟨.hbm, 596, rfl⟩
abbrev main_v457 : Ref sig .tc := ⟨.hbm, 597, rfl⟩
abbrev main_v458 : Ref sig .tc := ⟨.hbm, 598, rfl⟩
abbrev main_v459 : Ref sig .tc := ⟨.hbm, 599, rfl⟩
abbrev main_v460 : Ref sig .tc := ⟨.hbm, 600, rfl⟩
abbrev main_v461 : Ref sig .tc := ⟨.hbm, 601, rfl⟩
abbrev main_cst_31 : Ref sig .tc := ⟨.hbm, 602, rfl⟩
abbrev main_v462 : Ref sig .tc := ⟨.hbm, 603, rfl⟩
abbrev main_cst_32 : Ref sig .tc := ⟨.hbm, 604, rfl⟩
abbrev main_v463 : Ref sig .tc := ⟨.hbm, 605, rfl⟩
abbrev main_v464 : Ref sig .tc := ⟨.hbm, 606, rfl⟩
abbrev main_v465 : Ref sig .tc := ⟨.hbm, 607, rfl⟩
abbrev main_v466 : Ref sig .tc := ⟨.hbm, 608, rfl⟩
abbrev main_v467 : Ref sig .tc := ⟨.hbm, 609, rfl⟩
abbrev main_v468 : Ref sig .tc := ⟨.hbm, 610, rfl⟩
abbrev main_cst_33 : Ref sig .tc := ⟨.hbm, 611, rfl⟩
abbrev main_v469 : Ref sig .tc := ⟨.hbm, 612, rfl⟩
abbrev main_v470 : Ref sig .tc := ⟨.hbm, 613, rfl⟩
abbrev main_v471 : Ref sig .tc := ⟨.hbm, 614, rfl⟩
abbrev main_v472 : Ref sig .tc := ⟨.hbm, 615, rfl⟩
abbrev main_v473 : Ref sig .tc := ⟨.hbm, 616, rfl⟩
abbrev main_v474 : Ref sig .tc := ⟨.hbm, 617, rfl⟩
abbrev main_v475 : Ref sig .tc := ⟨.hbm, 618, rfl⟩
abbrev main_cst_34 : Ref sig .tc := ⟨.hbm, 619, rfl⟩
abbrev main_v476 : Ref sig .tc := ⟨.hbm, 620, rfl⟩
abbrev main_v477 : Ref sig .tc := ⟨.hbm, 621, rfl⟩

abbrev nD : Nat := 1
abbrev τ : Topo := Topo.v7x

variable {F : FTy → Type} [FloatOps F]
-- ==== Proof.Block.lean ====
/- What one grid point of the kernel computes, restated: the values of the four layers of the body as vector
   expressions in closed form (the recurrence over the time step and the state number as two recursions), at any
   float instance. -/
module

public import proofs.«01_k».proof.Proof.Gen.KernelIdeal.Value
public import Idealize.ShloMosaic.Lib.Pipeline.ValueKit

@[expose] public section

set_option maxRecDepth 16384

noncomputable section

namespace Cert.KernelIdeal.Block

open Idealize.ShloMosaic Idealize.ShloMosaic.TcCoe Cert.KernelIdeal Cert.KernelIdeal.Gen

variable {F : FTy → Type} [FloatOps F]

/-! ### The part of an array that belongs to one time step -/

theorem rows_ok (l : ℕ) (h : l < 5) : S1280x1024.Slices ![256 * l, 0] S256x1024 := by
  interval_cases l <;> decide

theorem orows_ok (l : ℕ) (h : l < 5) : S1280x512.Slices ![256 * l, 0] S256x512 := by
  interval_cases l <;> decide

theorem bcol_ok (l n : ℕ) (h : l < 5) (hn : n < 16) : S1280x64.Slices ![256 * l, 32 + n] S256x1 := by
  interval_cases l <;> interval_cases n <;> decide

theorem ccol_ok (l n : ℕ) (h : l < 5) (hn : n < 16) : S1280x64.Slices ![256 * l, 48 + n] S256x1 := by
  interval_cases l <;> interval_cases n <;> decide

/-- The rows of time step `l`. -/
def rows {φ : FTy} (v : FVec F S1280x1024 φ) (l : ℕ) (h : l < 5) : FVec F S256x1024 φ :=
  extractStridedSlice S256x1024 ![256 * l, 0] v (rows_ok l h)

/-- The rows of time step `l` of the mixer's output. -/
def orows (v : FVec F S1280x512 .f32) (l : ℕ) (h : l < 5) : FVec F S256x512 .f32 :=
  extractStridedSlice S256x512 ![256 * l, 0] v (orows_ok l h)

/-- The input weight of state `n` at time step `l`, along the channels. -/
def bcol (v : FVec F S1280x64 .f32) (l n : ℕ) (h : l < 5) (hn : n < 16) : FVec F S256x1024 .bf16 :=
  broadcastTo S256x1024
    (truncf .bf16 (extractStridedSlice S256x1 ![256 * l, 32 + n] v (bcol_ok l n h hn)) bitsLt_bf16_f32 : FVec F S256x1 .bf16)
    broadcasts_S256x1_S256x1024

/-- The output weight of state `n` at time step `l`, along the channels. -/
def ccol (v : FVec F S1280x64 .f32) (l n : ℕ) (h : l < 5) (hn : n < 16) : FVec F S256x1024 .bf16 :=
  broadcastTo S256x1024
    (truncf .bf16 (extractStridedSlice S256x1 ![256 * l, 48 + n] v (ccol_ok l n h hn)) bitsLt_bf16_f32 : FVec F S256x1 .bf16)
    broadcasts_S256x1_S256x1024

/-- Five time steps' rows, one under the other. -/
def stack {φ : FTy} (g : (l : ℕ) → l < 5 → FVec F S256x1024 φ) : FVec F S1280x1024 φ :=
  concatenate S1280x1024 0
    [⟨S256x1024, g 0 (by decide)⟩, ⟨S256x1024, g 1 (by decide)⟩, ⟨S256x1024, g 2 (by decide)⟩,
     ⟨S256x1024, g 3 (by decide)⟩, ⟨S256x1024, g 4 (by decide)⟩]
    concatenates_S256x1024_S256x1024_S256x1024_S256x1024_S256x1024_S1280x1024_d0

/-! ### The convolution -/

section Convolution

variable (v : FVec F S1280x1024 .bf16) (w : FVec F S4x1024 .bf16)

theorem wrow_ok (k : ℕ) (h : k < 4) : S4x1024.Slices ![k, 0] S1x1024 := by
  interval_cases k <;> decide

/-- Time step `l` weighted by row `k` of the convolution's weights. -/
def tapped (l k : ℕ) (h : l < 5) (hk : k < 4) : FVec F S256x1024 .bf16 :=
  mulf (rows v l h) (broadcastTo S256x1024 (extractStridedSlice S1x1024 ![k, 0] w (wrow_ok k hk)) broadcasts_S1x1024_S256x1024)

/-- The causal convolution at time step `l`. -/
def conv : (l : ℕ) → l < 5 → FVec F S256x1024 .bf16
  | 0, _ => tapped v w 0 3 (by decide) (by decide)
  | 1, _ => addf (tapped v w 1 3 (by decide) (by decide)) (tapped v w 0 2 (by decide) (by decide))
  | 2, _ => addf (addf (tapped v w 2 3 (by decide) (by decide)) (tapped v w 0 1 (by decide) (by decide)))
      (tapped v w 1 2 (by decide) (by decide))
  | 3, _ => addf (addf (addf (tapped v w 3 3 (by decide) (by decide)) (tapped v w 0 0 (by decide) (by decide)))
      (tapped v w 1 1 (by decide) (by decide))) (tapped v w 2 2 (by decide) (by decide))
  | _ + 4, _ => addf (addf (addf (tapped v w 4 3 (by decide) (by decide)) (tapped v w 1 0 (by decide) (by decide)))
      (tapped v w 2 1 (by decide) (by decide))) (tapped v w 3 2 (by decide) (by decide))

/-- Its activation. -/
def active (l : ℕ) (h : l < 5) : FVec F S256x1024 .bf16 := mulf (conv v w l h) (logistic (conv v w l h))

end Convolution

/-! ### The recurrence, over the whole-block arrays it reads -/

section Recurrence

variable (xc : FVec F S1280x1024 .bf16) (dbl : FVec F S1280x64 .f32) (e u sz : FVec F S1280x1024 .bf16)

/-- The decay of state `n`: the power `n + 1` of the step's decay. -/
def decay (l : ℕ) (h : l < 5) : ℕ → FVec F S256x1024 .bf16
  | 0 => rows e l h
  | n + 1 => mulf (decay l h n) (rows e l h)

/-- State `n` after time step `l`. -/
def state (n : ℕ) (hn : n < 16) : (l : ℕ) → l < 5 → FVec F S256x1024 .bf16
  | 0, h => mulf (rows u 0 h) (bcol dbl 0 n h hn)
  | l + 1, h => addf (mulf (decay e (l + 1) h n) (state n hn l (Nat.lt_of_succ_lt h)))
      (mulf (rows u (l + 1) h) (bcol dbl (l + 1) n h hn))

/-- The states' weighted sum up to state `n` after time step `l`. -/
def readout (l : ℕ) (h : l < 5) : (n : ℕ) → n < 16 → FVec F S256x1024 .bf16
  | 0, hn => mulf (state dbl e u 0 hn l h) (ccol dbl l 0 h hn)
  | n + 1, hn => addf (readout l h n (Nat.lt_of_succ_lt hn)) (mulf (state dbl e u (n + 1) hn l h) (ccol dbl l (n + 1) h hn))

/-- The gated output of time step `l`. -/
def gated (l : ℕ) (h : l < 5) : FVec F S256x1024 .bf16 :=
  mulf (addf (readout dbl e u l h 15 (by decide)) (rows xc l h)) (rows sz l h)

/-- The gated outputs of the five time steps, one under the other. -/
def gatedAll : FVec F S1280x1024 .bf16 :=
  concatenate S1280x1024 0
    [⟨S256x1024, gated xc dbl e u sz 0 (by decide)⟩, ⟨S256x1024, gated xc dbl e u sz 1 (by decide)⟩,
     ⟨S256x1024, gated xc dbl e u sz 2 (by decide)⟩, ⟨S256x1024, gated xc dbl e u sz 3 (by decide)⟩,
     ⟨S256x1024, gated xc dbl e u sz 4 (by decide)⟩]
    concatenates_S256x1024_S256x1024_S256x1024_S256x1024_S256x1024_S1280x1024_d0

end Recurrence

/-! ### The attention weights over the five time steps -/

/-- A step's score: the greatest entry of a row plus the row's mean. -/
def score (o : FVec F S256x512 .f32) : FVec F S256x1 .f32 :=
  addf (shapeCast S256x1 (multiReduction .maximumf [1] S256 o 0xFF800000#32 reduces_S256x512_S256 (.inl rfl) rfl) shapeCasts_S256_S256x1)
    (mulf (shapeCast S256x1 (multiReduction .add [1] S256 o 0x00000000#32 reduces_S256x512_S256 (.inl rfl) rfl) shapeCasts_S256_S256x1)
      (broadcast S256x1 (Scalar.ofBits .f32 0x3B000000#32)))

theorem at1_ok (s : ℕ) (hs : s < 5) : ∀ a, (![s] : Fin 1 → ℕ) a + S1.size a ≤ S5.size a := by
  interval_cases s <;> decide

theorem at2_ok (s l : ℕ) (hs : s < 5) (hl : l < 5) : ∀ a, (![s, l] : Fin 2 → ℕ) a + S1x1.size a ≤ S5x5.size a := by
  interval_cases s <;> interval_cases l <;> decide

/-- Entry `s` of the bias. -/
def at1 (b : Vec F S5 .f32) (s : ℕ) (hs : s < 5) : Elt F .f32 :=
  View.ld b (Rect.unit ![s] ![1] (at1_ok s hs)) (Shape.Idx.first (show 0 < S1.numel by decide))

/-- Entry `(s, l)` of the mixing weights. -/
def at2 (w : Vec F S5x5 .f32) (s l : ℕ) (hs : s < 5) (hl : l < 5) : Elt F .f32 :=
  View.ld w (Rect.unit ![s, l] ![1, 1] (at2_ok s l hs hl)) (Shape.Idx.first (show 0 < S1x1.numel by decide))

section Attention

variable (o : FVec F S1280x512 .f32) (w : Vec F S5x5 .f32) (b : Vec F S5 .f32)

/-- Logit `s`, summed over the time steps up to `l`. -/
def logitTo (s : ℕ) (hs : s < 5) : (l : ℕ) → l < 5 → FVec F S256x1 .f32
  | 0, h => addf (broadcast S256x1 (at1 b s hs)) (mulf (score (orows o 0 h)) (broadcast S256x1 (at2 w s 0 hs h)))
  | l + 1, h => addf (logitTo s hs l (Nat.lt_of_succ_lt h))
      (mulf (score (orows o (l + 1) h)) (broadcast S256x1 (at2 w s (l + 1) hs h)))

/-- Logit `s`. -/
def logit (s : ℕ) (hs : s < 5) : FVec F S256x1 .f32 := logitTo o w b s hs 4 (by decide)

/-- The greatest of the logits up to `s`. -/
def topTo : (s : ℕ) → s < 5 → FVec F S256x1 .f32
  | 0, h => logit o w b 0 h
  | s + 1, h => maximumf (topTo s (Nat.lt_of_succ_lt h)) (logit o w b (s + 1) h)

/-- The exponential of logit `s` less the greatest. -/
def expo (s : ℕ) (hs : s < 5) : FVec F S256x1 .f32 := exp (subf (logit o w b s hs) (topTo o w b 4 (by decide)))

/-- The sum of the exponentials up to `s`. -/
def denTo : (s : ℕ) → s < 5 → FVec F S256x1 .f32
  | 0, h => expo o w b 0 h
  | s + 1, h => addf (denTo s (Nat.lt_of_succ_lt h)) (expo o w b (s + 1) h)

/-- The attention-weighted rows of step `s`. -/
def part (s : ℕ) (hs : s < 5) : FVec F S256x512 .f32 :=
  mulf (broadcastTo S256x512
      (mulf (expo o w b s hs) (divf (broadcast S256x1 (Scalar.ofBits .f32 0x3F800000#32)) (denTo o w b 4 (by decide))))
      broadcasts_S256x1_S256x512) (orows o s hs)

/-- The weighted rows summed over the steps up to `s`. -/
def fusedTo : (s : ℕ) → s < 5 → FVec F S256x512 .f32
  | 0, h => part o w b 0 h
  | s + 1, h => addf (fusedTo s (Nat.lt_of_succ_lt h)) (part o w b (s + 1) h)

end Attention

/-! ### The body -/

section Body

variable (x0 : Vec F S1x5x256x512 .bf16) (x2 : Vec F S512x2048 .bf16) (x3 : Vec F S4x1024 .bf16) (x4 : Vec F S1024x64 .bf16)
  (x5 : Vec F S32x1024 .bf16) (x6 : Vec F S1x1024 .f32) (x7 : Vec F S1024x512 .bf16) (x8 : Vec F S5x5 .f32) (x9 : Vec F S5 .f32)

/-- The activated convolution. -/
def conved : FVec F S1280x1024 .bf16 :=
  k0_pay21 (k0_pay13 x0 x2) (k0_pay15 x3) (k0_pay16 x0 x2 x3) (k0_pay17 x0 x2 x3) (k0_pay18 x0 x2 x3) (k0_pay19 x0 x2 x3)
    (k0_pay20 x0 x2)

/-- Its projection to step size, input weights and output weights. -/
def projected : FVec F S1280x64 .f32 :=
  k0_pay22 (k0_pay13 x0 x2) (k0_pay15 x3) (k0_pay16 x0 x2 x3) (k0_pay17 x0 x2 x3) (k0_pay18 x0 x2 x3) (k0_pay19 x0 x2 x3)
    (k0_pay20 x0 x2) x4

/-- The step size before the softplus. -/
def rawStep : FVec F S1280x1024 .f32 :=
  k0_pay23 (k0_pay13 x0 x2) (k0_pay15 x3) (k0_pay16 x0 x2 x3) (k0_pay17 x0 x2 x3) (k0_pay18 x0 x2 x3) (k0_pay19 x0 x2 x3)
    (k0_pay20 x0 x2) x4 x5 x6

/-- The mixer's output, the five time steps one under the other. -/
def mixed : FVec F S1280x512 .f32 :=
  k0_pay209 (gatedAll (conved x0 x2 x3) (projected x0 x2 x3 x4)
    (k0_pay26 (rawStep x0 x2 x3 x4 x5 x6) (Scalar.ofBits .f32 0x00000000#32) k0_pay24)
    (k0_pay27 (conved x0 x2 x3) (rawStep x0 x2 x3 x4 x5 x6) (Scalar.ofBits .f32 0x00000000#32) k0_pay24)
    (k0_pay28 (k0_pay14 x0 x2))) x7

/-- One stream's contribution: its mixer's output, fused over the five time steps. -/
def fused : FVec F S256x512 .f32 := fusedTo (mixed x0 x2 x3 x4 x5 x6 x7) x8 x9 4 (by decide)

end Body

end Cert.KernelIdeal.Block

end
-- ==== Proof.Row.lean ====
/- The mathematics of one token: a stream's row through the mixer (projection, causal convolution over the five time
   steps, state recurrence, gate, output projection) and the attention that fuses a token's time steps, over the
   extended reals; and the one fact about it the equation takes, that the denominator of the softmax is not 0 when
   the features and the weights are real numbers. -/
module

public import Idealize.ShloMosaic.Lib.IdealHost

@[expose] public section

noncomputable section

namespace Cert.Row

open Idealize.ShloMosaic

/-! ### The mixer on one token -/

/-- The mixer's weights that the two programs both read. -/
structure Weights where
  win : Fin 2048 → Fin 512 → EReal
  wconv : Fin 1024 → Fin 4 → EReal
  wx : Fin 64 → Fin 1024 → EReal
  wdt : Fin 1024 → Fin 32 → EReal
  bdt : Fin 1024 → EReal
  wout : Fin 512 → Fin 1024 → EReal

/-- `x · σ(x)`. -/
def silu (x : EReal) : EReal := x * Ideal.logistic x

/-- `log (1 + eˣ)`, in the form that does not overflow. -/
def softplus (x : EReal) : EReal := max x 0 + Ideal.log1p (Ideal.exp (-(max x (-x))))

section Mixer

variable (W : Weights) (x : Fin 5 → Fin 512 → EReal)

/-- The input projection: columns below 1024 go to the convolution, the others to the gate. -/
def xz (l : Fin 5) (j : Fin 2048) : EReal := ∑ k, x l k * W.win j k

/-- Channel `d` of the projection, `3 - k` time steps before `l`; 0 before the first. -/
def tap (l : Fin 5) (k : Fin 4) (d : Fin 1024) : EReal :=
  if 3 ≤ l.1 + k.1 then xz W x ⟨l.1 + k.1 - 3, by omega⟩ ⟨d.1, by omega⟩ else 0

/-- The causal convolution over the time steps, and its activation. -/
def xc (l : Fin 5) (d : Fin 1024) : EReal := silu (∑ k, tap W x l k d * W.wconv d k)

/-- The projection to step size (32), input weights (16) and output weights (16). -/
def dbl (l : Fin 5) (e : Fin 64) : EReal := ∑ d, xc W x l d * W.wx e d

/-- The step size. -/
def dt (l : Fin 5) (d : Fin 1024) : EReal :=
  softplus ((∑ k : Fin 32, dbl W x l ⟨k.1, by omega⟩ * W.wdt d k) + W.bdt d)

/-- What time step `l` adds to state `n` of channel `d`. -/
def drive (l : Fin 5) (n : Fin 16) (d : Fin 1024) : EReal :=
  dt W x l d * dbl W x l ⟨32 + n.1, by omega⟩ * xc W x l d

/-- The factor of state `n` at time step `l`: `e` to the step size times `-(n + 1)`. -/
def fade (l : Fin 5) (n : ℕ) (d : Fin 1024) : EReal := Ideal.exp (dt W x l d * ((-(n + 1 : ℝ) : ℝ) : EReal))

/-- State `n` of channel `d` after time step `l`, from 0. -/
def state (n : Fin 16) (d : Fin 1024) : (l : ℕ) → l < 5 → EReal
  | 0, h => drive W x ⟨0, h⟩ n d
  | l + 1, h => fade W x ⟨l + 1, h⟩ n.1 d * state n d l (Nat.lt_of_succ_lt h) + drive W x ⟨l + 1, h⟩ n d

/-- The gated output of time step `l`. -/
def gated (l : Fin 5) (d : Fin 1024) : EReal :=
  ((∑ n : Fin 16, state W x n d l.1 l.2 * dbl W x l ⟨48 + n.1, by omega⟩) + xc W x l d)
    * silu (xz W x l ⟨1024 + d.1, by omega⟩)

/-- The mixer's output. -/
def mix (l : Fin 5) (j : Fin 512) : EReal := ∑ d, gated W x l d * W.wout j d

end Mixer

/-! ### The attention over one token's time steps -/

section Fuse

variable {n : ℕ} (f : Fin n → Fin 512 → EReal) (w : Fin n → Fin n → EReal) (b : Fin n → EReal)

/-- A row's greatest entry plus its mean. -/
def score (v : Fin 512 → EReal) : EReal := Finset.univ.fold max ⊥ v + (∑ k, v k) * ((1 / 512 : ℝ) : EReal)

/-- The logit of time step `s`. -/
def logit (s : Fin n) : EReal := (∑ l, score (f l) * w s l) + b s

/-- The greatest logit. -/
def top : EReal := Finset.univ.fold max ⊥ (logit f w b)

/-- The exponential of a logit less the greatest. -/
def expo (s : Fin n) : EReal := Ideal.exp (logit f w b s - top f w b)

/-- The softmax's denominator. -/
def den : EReal := ∑ s, expo f w b s

/-- The features' mean under the softmax's weights. -/
def fuse (j : Fin 512) : EReal := ∑ s, f s j * Ideal.div (expo f w b s) (den f w b)

end Fuse

/-! ### Real values -/

/-- `x` is a real number. -/
def IsReal (x : EReal) : Prop := ∃ r : ℝ, x = (r : EReal)

namespace IsReal

theorem zero : IsReal 0 := ⟨0, rfl⟩

theorem coe (r : ℝ) : IsReal (r : EReal) := ⟨r, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem neg {x : EReal} (hx : IsReal x) : IsReal (-x) := by
  obtain ⟨a, rfl⟩ := hx; exact ⟨-a, (EReal.coe_neg a).symm⟩

theorem max {x y : EReal} (hx : IsReal x) (hy : IsReal y) : IsReal (Max.max x y) := by
  rcases max_choice x y with h | h <;> rw [h] <;> assumption

theorem exp {x : EReal} (hx : IsReal x) : IsReal (Ideal.exp x) := by
  obtain ⟨a, rfl⟩ := hx; exact ⟨Real.exp a, rfl⟩

theorem sum {ι : Type} (s : Finset ι) (g : ι → EReal) (h : ∀ i ∈ s, IsReal (g i)) : IsReal (∑ i ∈ s, g i) :=
  Finset.sum_induction g IsReal (fun _ _ => add) zero h

theorem fold_max {n : ℕ} (g : Fin (n + 1) → EReal) (h : ∀ i, IsReal (g i)) : IsReal (Finset.univ.fold Max.max ⊥ g) := by
  obtain ⟨i, -, hi⟩ := Finset.exists_mem_eq_sup Finset.univ ⟨0, Finset.mem_univ _⟩ g
  have e : Finset.univ.fold Max.max ⊥ g = g i := hi
  rw [e]; exact h i

theorem logistic {x : EReal} (hx : IsReal x) : IsReal (Ideal.logistic x) := by
  obtain ⟨a, rfl⟩ := hx
  have hpos : (1 + Real.exp (-a) : ℝ) ≠ 0 := by positivity
  have e : (1 : EReal) + Ideal.exp (-(a : EReal)) = ((1 + Real.exp (-a) : ℝ) : EReal) := by
    rw [← EReal.coe_neg, EReal.coe_add]; rfl
  refine ⟨1 * (1 / (1 + Real.exp (-a))), ?_⟩
  rw [EReal.coe_mul, EReal.coe_one, ← Ideal.div_coe hpos, ← e]; rfl

theorem log1p_exp {x : EReal} (hx : IsReal x) : IsReal (Ideal.log1p (Ideal.exp x)) := by
  obtain ⟨a, rfl⟩ := hx
  have hpos : ¬ (1 + Real.exp a : ℝ) ≤ 0 := by have := Real.exp_pos a; linarith
  have e : (1 : EReal) + Ideal.exp (a : EReal) = ((1 + Real.exp a : ℝ) : EReal) := by
    rw [EReal.coe_add]; rfl
  refine ⟨Real.log (1 + Real.exp a), ?_⟩
  rw [Ideal.log1p, e]
  exact if_neg hpos

theorem silu {x : EReal} (hx : IsReal x) : IsReal (silu x) := mul hx (logistic hx)

theorem softplus {x : EReal} (hx : IsReal x) : IsReal (softplus x) :=
  add (max hx zero) (log1p_exp (neg (max hx (neg hx))))

end IsReal

/-- All the weights are real numbers. -/
structure Weights.Real (W : Weights) : Prop where
  win : ∀ j k, IsReal (W.win j k)
  wconv : ∀ d k, IsReal (W.wconv d k)
  wx : ∀ e d, IsReal (W.wx e d)
  wdt : ∀ d k, IsReal (W.wdt d k)
  bdt : ∀ d, IsReal (W.bdt d)
  wout : ∀ j d, IsReal (W.wout j d)

section Mixer

variable {W : Weights} {x : Fin 5 → Fin 512 → EReal} (hW : W.Real) (hx : ∀ l k, IsReal (x l k))

include hW hx

theorem xz_real (l : Fin 5) (j : Fin 2048) : IsReal (xz W x l j) :=
  .sum _ _ fun k _ => .mul (hx l k) (hW.win j k)

theorem tap_real (l : Fin 5) (k : Fin 4) (d : Fin 1024) : IsReal (tap W x l k d) := by
  unfold tap; split
  · exact xz_real hW hx _ _
  · exact .zero

theorem xc_real (l : Fin 5) (d : Fin 1024) : IsReal (xc W x l d) :=
  .silu (.sum _ _ fun k _ => .mul (tap_real hW hx l k d) (hW.wconv d k))

theorem dbl_real (l : Fin 5) (e : Fin 64) : IsReal (dbl W x l e) :=
  .sum _ _ fun d _ => .mul (xc_real hW hx l d) (hW.wx e d)

theorem dt_real (l : Fin 5) (d : Fin 1024) : IsReal (dt W x l d) :=
  .softplus (.add (.sum _ _ fun k _ => .mul (dbl_real hW hx l _) (hW.wdt d k)) (hW.bdt d))

theorem drive_real (l : Fin 5) (n : Fin 16) (d : Fin 1024) : IsReal (drive W x l n d) :=
  .mul (.mul (dt_real hW hx l d) (dbl_real hW hx l _)) (xc_real hW hx l d)

theorem state_real (n : Fin 16) (d : Fin 1024) (l : ℕ) (h : l < 5) : IsReal (state W x n d l h) := by
  induction l with
  | zero => exact drive_real hW hx _ n d
  | succ l ih => exact .add (.mul (.exp (.mul (dt_real hW hx _ d) (.coe _))) (ih _)) (drive_real hW hx _ n d)

/-- The mixer's output is real. -/
theorem mix_real (l : Fin 5) (j : Fin 512) : IsReal (mix W x l j) :=
  .sum _ _ fun d _ => .mul
    (.mul (.add (.sum _ _ fun n _ => .mul (state_real hW hx n d l.1 l.2) (dbl_real hW hx l _)) (xc_real hW hx l d))
      (.silu (xz_real hW hx l _)))
    (hW.wout j d)

end Mixer

section Fuse

variable {n : ℕ} {f : Fin (n + 1) → Fin 512 → EReal} {w : Fin (n + 1) → Fin (n + 1) → EReal} {b : Fin (n + 1) → EReal}

theorem logit_real (hf : ∀ s j, IsReal (f s j)) (hw : ∀ s l, IsReal (w s l)) (hb : ∀ s, IsReal (b s)) (s : Fin (n + 1)) :
    IsReal (logit f w b s) :=
  .add (.sum _ _ fun l _ => .mul
    (.add (.fold_max _ (hf l)) (.mul (.sum _ _ fun k _ => hf l k) (.coe _))) (hw s l)) (hb s)

theorem exp_nonneg (x : EReal) : 0 ≤ Ideal.exp x := by
  induction x with
  | bot => exact le_rfl
  | top => exact le_top
  | coe r => exact EReal.coe_nonneg.mpr (Real.exp_pos r).le

/-- Of real logits the softmax's denominator is not 0: the greatest logit's term is 1. -/
theorem den_ne_zero (hf : ∀ s j, IsReal (f s j)) (hw : ∀ s l, IsReal (w s l)) (hb : ∀ s, IsReal (b s)) :
    den f w b ≠ 0 := by
  obtain ⟨i, -, hi⟩ := Finset.exists_mem_eq_sup Finset.univ ⟨0, Finset.mem_univ _⟩ (logit f w b)
  have e : top f w b = logit f w b i := hi
  obtain ⟨r, hr⟩ := logit_real hf hw hb i
  have e1 : expo f w b i = 1 := by
    rw [expo, e, hr, ← EReal.coe_sub, sub_self, EReal.coe_zero]
    show ((Real.exp 0 : ℝ) : EReal) = 1
    rw [Real.exp_zero, EReal.coe_one]
  have h1 : expo f w b i ≤ den f w b :=
    Finset.single_le_sum (f := expo f w b) (fun s _ => exp_nonneg _) (Finset.mem_univ i)
  rw [e1] at h1
  exact (lt_of_lt_of_le zero_lt_one h1).ne'

/-- Weights `e · (1 / den)` for the softmax's weights `e / den`. -/
theorem fuse_eq_reciprocal (hd : den f w b ≠ 0) (j : Fin 512) :
    fuse f w b j = ∑ s, expo f w b s * Ideal.div 1 (den f w b) * f s j :=
  Finset.sum_congr rfl fun s _ => by rw [Ideal.mul_one_div hd, mul_comm]

end Fuse

/-- The power `n + 2` of a step's decay from the power `n + 1`. -/
theorem fade_succ (d : EReal) (n : ℕ) :
    Ideal.exp (d * ((-(n + 1 : ℝ) : ℝ) : EReal)) * Ideal.exp (-d) = Ideal.exp (d * ((-((n + 1 : ℕ) + 1 : ℝ) : ℝ) : EReal)) := by
  have h1 : (-(n + 1 : ℝ) : ℝ) < 0 := by have : (0 : ℝ) ≤ n := n.cast_nonneg; linarith
  have h2 : (-((n + 1 : ℕ) + 1 : ℝ) : ℝ) < 0 := by have : (0 : ℝ) ≤ (n + 1 : ℕ) := (n + 1).cast_nonneg; linarith
  induction d with
  | bot =>
    rw [EReal.bot_mul_coe_of_neg h1, EReal.bot_mul_coe_of_neg h2]
    exact EReal.top_mul_top
  | top =>
    rw [EReal.top_mul_coe_of_neg h1, EReal.top_mul_coe_of_neg h2]
    exact zero_mul _
  | coe r =>
    rw [← EReal.coe_mul, ← EReal.coe_mul, ← EReal.coe_neg]
    show ((Real.exp _ : ℝ) : EReal) * ((Real.exp _ : ℝ) : EReal) = ((Real.exp _ : ℝ) : EReal)
    rw [← EReal.coe_mul, ← Real.exp_add]
    congr 2
    push_cast
    ring

/-- The first power. -/
theorem fade_zero (d : EReal) : Ideal.exp (d * ((-((0 : ℕ) + 1 : ℝ) : ℝ) : EReal)) = Ideal.exp (-d) := by
  congr 1
  rw [Nat.cast_zero, zero_add, EReal.coe_neg, EReal.coe_one, mul_neg, mul_one]

end Cert.Row

end
-- ==== Proof.BlockMix.lean ====
/- The mixer of one block, entry by entry: row `256 * l + q` of every layer is the mathematics of token `q` at time
   step `l` (Row.lean). -/
module

public import proofs.«01_k».proof.Proof.Block
public import proofs.«01_k».proof.Proof.Row
public import Idealize.ShloMosaic.Lib.Pointwise

@[expose] public section

set_option maxRecDepth 16384

noncomputable section

namespace Cert.KernelIdeal.Block

open Idealize.ShloMosaic Idealize.ShloMosaic.TcCoe Cert.KernelIdeal Cert.KernelIdeal.Gen

variable (x0 : Vec Ideal S1x5x256x512 .bf16) (x2 : Vec Ideal S512x2048 .bf16) (x3 : Vec Ideal S4x1024 .bf16)
  (x4 : Vec Ideal S1024x64 .bf16) (x5 : Vec Ideal S32x1024 .bf16) (x6 : Vec Ideal S1x1024 .f32)
  (x7 : Vec Ideal S1024x512 .bf16)

/-- The mixer's weights as the block's arrays hold them: the matrices transposed. -/
def weights : Row.Weights where
  win j k := x2 (ix2 k j)
  wconv d k := x3 (ix2 k d)
  wx e d := x4 (ix2 d e)
  wdt d k := x5 (ix2 k d)
  bdt d := x6 (ix2 0 d)
  wout j d := x7 (ix2 d j)

/-- Token `q`'s rows. -/
def tokens (q : Fin 256) : Fin 5 → Fin 512 → EReal := fun l k => x0 (ix4 0 l q k)

theorem xz_apply (l : Fin 5) (q : Fin 256) (j : Fin 2048) :
    k0_pay12 x0 x2 (ix2 ⟨256 * l.1 + q.1, by omega⟩ j) = Row.xz (weights x2 x3 x4 x5 x6 x7) (tokens x0 q) l j := by
  pointwise [k0_pay12]
  rfl

theorem stack_apply {φ : FTy} (g : (l : ℕ) → l < 5 → FVec Ideal S256x1024 φ) (l : Fin 5) (q : Fin 256) (d : Fin 1024) :
    stack g (ix2 ⟨256 * l.1 + q.1, by omega⟩ d) = g l.1 l.2 (ix2 q d) := by
  obtain ⟨l, h⟩ := l
  pointwise [stack]
  interval_cases l
  · rw [dif_pos (by omega)]
    have e2 : 256 * 0 + q.1 = q.1 := by omega
    simp only [e2]
  · rw [dif_neg (by omega), dif_pos (by omega)]
    have e2 : 256 * 1 + q.1 - 256 = q.1 := by omega
    simp only [e2]
  · rw [dif_neg (by omega), dif_neg (by omega), dif_pos (by omega)]
    have e2 : 256 * 2 + q.1 - 256 - 256 = q.1 := by omega
    simp only [e2]
  · rw [dif_neg (by omega), dif_neg (by omega), dif_neg (by omega), dif_pos (by omega)]
    have e2 : 256 * 3 + q.1 - 256 - 256 - 256 = q.1 := by omega
    simp only [e2]
  · rw [dif_neg (by omega), dif_neg (by omega), dif_neg (by omega), dif_neg (by omega)]
    have e2 : 256 * 4 + q.1 - 256 - 256 - 256 - 256 = q.1 := by omega
    simp only [e2]

theorem tapped_apply (l : Fin 5) (k : Fin 4) (q : Fin 256) (d : Fin 1024) :
    tapped (k0_pay13 x0 x2) (k0_pay15 x3) l.1 k.1 l.2 k.2 (ix2 q d)
      = Row.xz (weights x2 x3 x4 x5 x6 x7) (tokens x0 q) l ⟨d.1, by omega⟩ * x3 (ix2 k d) := by
  pointwise [tapped, rows, k0_pay13, k0_pay15]
  rw [xz_apply x0 x2 x3 x4 x5 x6 x7 l q ⟨d.1, by omega⟩]

theorem conv_apply (l : Fin 5) (q : Fin 256) (d : Fin 1024) :
    conv (k0_pay13 x0 x2) (k0_pay15 x3) l.1 l.2 (ix2 q d) = ∑ k, Row.tap (weights x2 x3 x4 x5 x6 x7) (tokens x0 q) l k d * (weights x2 x3 x4 x5 x6 x7).wconv d k := by
  have T := fun l k => tapped_apply x0 x2 x3 x4 x5 x6 x7 l k q d
  rw [Fin.sum_univ_four]
  fin_cases l
  · refine (T 0 3).trans ?_
    simp [Row.tap, weights]
  · refine (congrArg₂ (· + ·) (T 1 3) (T 0 2)).trans ?_
    simp [Row.tap, weights]
    ac_rfl
  · refine (congrArg₂ (· + ·) (congrArg₂ (· + ·) (T 2 3) (T 0 1)) (T 1 2)).trans ?_
    simp [Row.tap, weights]
    ac_rfl
  · refine (congrArg₂ (· + ·) (congrArg₂ (· + ·) (congrArg₂ (· + ·) (T 3 3) (T 0 0)) (T 1 1)) (T 2 2)).trans ?_
    simp [Row.tap, weights]
    ac_rfl
  · refine (congrArg₂ (· + ·) (congrArg₂ (· + ·) (congrArg₂ (· + ·) (T 4 3) (T 1 0)) (T 2 1)) (T 3 2)).trans ?_
    simp [Row.tap, weights]
    ac_rfl

/-- The activated convolution, step by step. -/
theorem conved_eq : conved x0 x2 x3 = stack (active (k0_pay13 x0 x2) (k0_pay15 x3)) := rfl

theorem conved_apply (l : Fin 5) (q : Fin 256) (d : Fin 1024) :
    conved x0 x2 x3 (ix2 ⟨256 * l.1 + q.1, by omega⟩ d) = Row.xc (weights x2 x3 x4 x5 x6 x7) (tokens x0 q) l d := by
  rw [conved_eq, stack_apply]
  exact congrArg Row.silu (conv_apply x0 x2 x3 x4 x5 x6 x7 l q d)

/-- The activated convolution's steps one after the other. -/
theorem conved_def : conved x0 x2 x3
    = k0_pay21 (k0_pay13 x0 x2) (k0_pay15 x3) (k0_pay16 x0 x2 x3) (k0_pay17 x0 x2 x3) (k0_pay18 x0 x2 x3)
        (k0_pay19 x0 x2 x3) (k0_pay20 x0 x2) := rfl

theorem projected_apply (l : Fin 5) (q : Fin 256) (e : Fin 64) :
    projected x0 x2 x3 x4 (ix2 ⟨256 * l.1 + q.1, by omega⟩ e) = Row.dbl (weights x2 x3 x4 x5 x6 x7) (tokens x0 q) l e := by
  pointwise [projected, k0_pay22]
  rw [← conved_def]
  exact Finset.sum_congr rfl fun d _ => congrArg (· * x4 (ix2 d e)) (conved_apply x0 x2 x3 x4 x5 x6 x7 l q d)

theorem rawStep_apply (l : Fin 5) (q : Fin 256) (d : Fin 1024) :
    rawStep x0 x2 x3 x4 x5 x6 (ix2 ⟨256 * l.1 + q.1, by omega⟩ d)
      = (∑ k : Fin 32, Row.dbl (weights x2 x3 x4 x5 x6 x7) (tokens x0 q) l ⟨k.1, by omega⟩ * x5 (ix2 k d)) + x6 (ix2 0 d) := by
  pointwise [rawStep, k0_pay23]
  refine congrArg (· + x6 (ix2 0 d)) (Finset.sum_congr rfl fun k _ => congrArg (· * x5 (ix2 k d)) ?_)
  exact projected_apply x0 x2 x3 x4 x5 x6 x7 l q ⟨k.1, by omega⟩

/-- The step's decay: `e` to minus the step size. -/
theorem decay_step (l : Fin 5) (q : Fin 256) (d : Fin 1024) :
    k0_pay26 (rawStep x0 x2 x3 x4 x5 x6) (Scalar.ofBits .f32 0x00000000#32) k0_pay24 (ix2 ⟨256 * l.1 + q.1, by omega⟩ d)
      = Ideal.exp (-(Row.dt (weights x2 x3 x4 x5 x6 x7) (tokens x0 q) l d)) := by
  pointwise [k0_pay26, k0_pay24, k0_pay25]
  rw [rawStep_apply x0 x2 x3 x4 x5 x6 x7 l q d, if_neg (fun h => h rfl), zero_sub, zero_sub]
  rfl

/-- The step's drive before the input weight. -/
theorem drive_step (l : Fin 5) (q : Fin 256) (d : Fin 1024) :
    k0_pay27 (conved x0 x2 x3) (rawStep x0 x2 x3 x4 x5 x6) (Scalar.ofBits .f32 0x00000000#32) k0_pay24
        (ix2 ⟨256 * l.1 + q.1, by omega⟩ d)
      = Row.dt (weights x2 x3 x4 x5 x6 x7) (tokens x0 q) l d * Row.xc (weights x2 x3 x4 x5 x6 x7) (tokens x0 q) l d := by
  pointwise [k0_pay27, k0_pay24, k0_pay25]
  rw [rawStep_apply x0 x2 x3 x4 x5 x6 x7 l q d, conved_apply x0 x2 x3 x4 x5 x6 x7 l q d, if_neg (fun h => h rfl), zero_sub]
  rfl

theorem gate_step (l : Fin 5) (q : Fin 256) (d : Fin 1024) :
    k0_pay28 (k0_pay14 x0 x2) (ix2 ⟨256 * l.1 + q.1, by omega⟩ d)
      = Row.silu (Row.xz (weights x2 x3 x4 x5 x6 x7) (tokens x0 q) l ⟨1024 + d.1, by omega⟩) := by
  pointwise [k0_pay28, k0_pay14]
  rw [xz_apply x0 x2 x3 x4 x5 x6 x7 l q ⟨1024 + d.1, by omega⟩]
  rfl

section Recurrence

variable (xc : FVec Ideal S1280x1024 .bf16) (dbl : FVec Ideal S1280x64 .f32) (e u sz : FVec Ideal S1280x1024 .bf16)
  (W : Row.Weights) (X : Fin 5 → Fin 512 → EReal) (q : Fin 256)

theorem rows_apply {φ : FTy} (v : FVec Ideal S1280x1024 φ) (l : Fin 5) (d : Fin 1024) :
    rows v l.1 l.2 (ix2 q d) = v (ix2 ⟨256 * l.1 + q.1, by omega⟩ d) := by
  pointwise [rows]

theorem bcol_apply (v : FVec Ideal S1280x64 .f32) (l : Fin 5) (n : Fin 16) (d : Fin 1024) :
    bcol v l.1 n.1 l.2 n.2 (ix2 q d) = v (ix2 ⟨256 * l.1 + q.1, by omega⟩ ⟨32 + n.1, by omega⟩) := by
  pointwise [bcol]

theorem ccol_apply (v : FVec Ideal S1280x64 .f32) (l : Fin 5) (n : Fin 16) (d : Fin 1024) :
    ccol v l.1 n.1 l.2 n.2 (ix2 q d) = v (ix2 ⟨256 * l.1 + q.1, by omega⟩ ⟨48 + n.1, by omega⟩) := by
  pointwise [ccol]

theorem decay_apply (he : ∀ (l : Fin 5) d, e (ix2 ⟨256 * l.1 + q.1, by omega⟩ d) = Ideal.exp (-(Row.dt W X l d)))
    (l : ℕ) (h : l < 5) (n : ℕ) (d : Fin 1024) : decay e l h n (ix2 q d) = Row.fade W X ⟨l, h⟩ n d := by
  induction n with
  | zero =>
    pointwise [decay, rows]
    rw [he ⟨l, h⟩ d]
    exact (Row.fade_zero _).symm
  | succ n ih =>
    pointwise [decay, rows]
    rw [ih, he ⟨l, h⟩ d]
    exact Row.fade_succ _ n

variable (he : ∀ (l : Fin 5) d, e (ix2 ⟨256 * l.1 + q.1, by omega⟩ d) = Ideal.exp (-(Row.dt W X l d)))
  (hu : ∀ (l : Fin 5) d, u (ix2 ⟨256 * l.1 + q.1, by omega⟩ d) = Row.dt W X l d * Row.xc W X l d)
  (hx : ∀ (l : Fin 5) d, xc (ix2 ⟨256 * l.1 + q.1, by omega⟩ d) = Row.xc W X l d)
  (hd : ∀ (l : Fin 5) k, dbl (ix2 ⟨256 * l.1 + q.1, by omega⟩ k) = Row.dbl W X l k)
  (hz : ∀ (l : Fin 5) d, sz (ix2 ⟨256 * l.1 + q.1, by omega⟩ d) = Row.silu (Row.xz W X l ⟨1024 + d.1, by omega⟩))

include he hu hd in
theorem state_apply (n : Fin 16) (l : ℕ) (h : l < 5) (d : Fin 1024) :
    state dbl e u n.1 n.2 l h (ix2 q d) = Row.state W X n d l h := by
  induction l with
  | zero =>
    show rows u 0 h (ix2 q d) * bcol dbl 0 n.1 h n.2 (ix2 q d) = _
    rw [rows_apply q u ⟨0, h⟩, bcol_apply q dbl ⟨0, h⟩ n, hu ⟨0, h⟩ d, hd ⟨0, h⟩ ⟨32 + n.1, by omega⟩]
    exact mul_right_comm _ _ _
  | succ l ih =>
    pointwise [state, rows, bcol]
    rw [hu ⟨l + 1, h⟩ d, hd ⟨l + 1, h⟩ ⟨32 + n.1, by omega⟩, ih, decay_apply e W X q he]
    exact congrArg (_ + ·) (mul_right_comm _ _ _)

include he hu hd in
theorem readout_apply (l : ℕ) (h : l < 5) (n : ℕ) (hn : n < 16) (d : Fin 1024) :
    readout dbl e u l h n hn (ix2 q d)
      = ∑ k : Fin (n + 1), Row.state W X ⟨k.1, by omega⟩ d l h * Row.dbl W X ⟨l, h⟩ ⟨48 + k.1, by omega⟩ := by
  induction n with
  | zero =>
    rw [Fin.sum_univ_one]
    show state dbl e u 0 hn l h (ix2 q d) * ccol dbl l 0 h hn (ix2 q d) = _
    rw [state_apply dbl e u W X q he hu hd ⟨0, hn⟩ l h d, ccol_apply q dbl ⟨l, h⟩ ⟨0, hn⟩, hd ⟨l, h⟩ ⟨48 + 0, by omega⟩]
    rfl
  | succ n ih =>
    rw [Fin.sum_univ_castSucc]
    pointwise [readout, ccol]
    rw [state_apply dbl e u W X q he hu hd ⟨n + 1, hn⟩ l h d, hd ⟨l, h⟩ ⟨48 + (n + 1), by omega⟩, ih]
    rfl

include he hu hd hx hz in
theorem gated_apply (l : ℕ) (h : l < 5) (d : Fin 1024) :
    gated xc dbl e u sz l h (ix2 q d) = Row.gated W X ⟨l, h⟩ d := by
  pointwise [gated, rows]
  rw [readout_apply dbl e u W X q he hu hd, hx ⟨l, h⟩ d, hz ⟨l, h⟩ d]
  rfl

include he hu hd hx hz in
theorem gatedAll_apply (l : Fin 5) (d : Fin 1024) :
    gatedAll xc dbl e u sz (ix2 ⟨256 * l.1 + q.1, by omega⟩ d) = Row.gated W X l d :=
  (stack_apply _ l q d).trans (gated_apply xc dbl e u sz W X q he hu hx hd hz l.1 l.2 d)

end Recurrence

theorem project_apply (g : FVec Ideal S1280x1024 .bf16) (r : Fin 1280) (j : Fin 512) :
    k0_pay209 g x7 (ix2 r j) = ∑ d, g (ix2 r d) * x7 (ix2 d j) := by
  pointwise [k0_pay209]

/-- The mixer's output at token `q` and time step `l`. -/
theorem mixed_apply (l : Fin 5) (q : Fin 256) (j : Fin 512) :
    mixed x0 x2 x3 x4 x5 x6 x7 (ix2 ⟨256 * l.1 + q.1, by omega⟩ j) = Row.mix (weights x2 x3 x4 x5 x6 x7) (tokens x0 q) l j := by
  unfold mixed
  rw [project_apply]
  refine Finset.sum_congr rfl fun d _ => congrArg (· * x7 (ix2 d j)) ?_
  exact gatedAll_apply _ _ _ _ _ (weights x2 x3 x4 x5 x6 x7) (tokens x0 q) q (fun l d => decay_step x0 x2 x3 x4 x5 x6 x7 l q d)
    (fun l d => drive_step x0 x2 x3 x4 x5 x6 x7 l q d) (fun l d => conved_apply x0 x2 x3 x4 x5 x6 x7 l q d)
    (fun l e => projected_apply x0 x2 x3 x4 x5 x6 x7 l q e) (fun l d => gate_step x0 x2 x3 x4 x5 x6 x7 l q d) l d

end Cert.KernelIdeal.Block

end
-- ==== Proof.BlockFuse.lean ====
/- The attention over one token's five time steps, as a block computes it, entry by entry: the kernel's logits, greatest
   logit and exponentials are the mathematics' (Row.lean), and its sum under the weights `e · (1 / den)` is the mean under
   the softmax's weights where the denominator is not 0. -/
module

public import proofs.«01_k».proof.Proof.Block
public import proofs.«01_k».proof.Proof.Row
public import Idealize.ShloMosaic.Lib.Pointwise

@[expose] public section

set_option maxRecDepth 16384

noncomputable section

namespace Cert.KernelIdeal.Block

open Idealize.ShloMosaic Idealize.ShloMosaic.TcCoe Cert.KernelIdeal Cert.KernelIdeal.Gen

theorem ofBits_neg_inf : Ideal.ofBits .f32 0xFF800000#32 = ⊥ := by simp [Ideal.ofBits, Ideal.ieee]

theorem ofBits_512th : Ideal.ofBits .f32 0x3B000000#32 = ((1 / 512 : ℝ) : EReal) := by
  simp [Ideal.ofBits, Ideal.ieee]
  rw [← EReal.coe_mul]
  norm_num

theorem score_apply (v : FVec Ideal S256x512 .f32) (q : Fin 256) : score v (ix2 q 0) = Row.score fun k => v (ix2 q k) := by
  pointwise [score]
  rw [ofBits_neg_inf, ofBits_512th]
  rfl

/-- The greatest of `n + 2` values from the greatest of the first `n + 1`. -/
theorem fold_max_succ {n : ℕ} (g : Fin (n + 1) → EReal) :
    Finset.univ.fold max ⊥ g = max (Finset.univ.fold max ⊥ fun k : Fin n => g k.castSucc) (g (Fin.last n)) := by
  show Finset.univ.sup g = max (Finset.univ.sup fun k : Fin n => g k.castSucc) (g (Fin.last n))
  rw [Fin.univ_castSuccEmb, Finset.sup_cons, Finset.sup_map, sup_comm]
  rfl

variable (o : FVec Ideal S1280x512 .f32) (w : Vec Ideal S5x5 .f32) (b : Vec Ideal S5 .f32) (q : Fin 256)

/-- Token `q`'s feature rows, its mixing weights and bias. -/
def feats : Fin 5 → Fin 512 → EReal := fun l k => o (ix2 ⟨256 * l.1 + q.1, by omega⟩ k)

def mixing : Fin 5 → Fin 5 → EReal := fun s l => w (ix2 s l)

def bias : Fin 5 → EReal := fun s => b (ix1 s)

theorem orows_apply (l : Fin 5) (j : Fin 512) : orows o l.1 l.2 (ix2 q j) = feats o q l j := by
  pointwise [orows]
  rfl

theorem at1_apply (s : Fin 5) : at1 b s.1 s.2 = bias b s := by
  pointwise [at1]
  rfl

theorem at2_apply (s l : Fin 5) : at2 w s.1 l.1 s.2 l.2 = mixing w s l := by
  pointwise [at2]
  rfl

theorem step_apply (s l : Fin 5) :
    mulf (score (orows o l.1 l.2)) (broadcast S256x1 (at2 w s.1 l.1 s.2 l.2)) (ix2 q 0)
      = Row.score (feats o q l) * mixing w s l := by
  rw [← at2_apply w s l]
  exact congrArg (· * at2 w s.1 l.1 s.2 l.2)
    ((score_apply _ q).trans (congrArg Row.score (funext fun k => orows_apply o q l k)))

theorem logitTo_apply (s : Fin 5) (l : ℕ) (h : l < 5) :
    logitTo o w b s.1 s.2 l h (ix2 q 0)
      = (∑ k : Fin (l + 1), Row.score (feats o q ⟨k.1, by omega⟩) * mixing w s ⟨k.1, by omega⟩) + bias b s := by
  induction l with
  | zero =>
    rw [Fin.sum_univ_one, ← at1_apply b s]
    refine Eq.trans ?_ (add_comm _ _)
    exact congrArg (at1 b s.1 s.2 + ·) (step_apply o w q s ⟨0, h⟩)
  | succ l ih =>
    rw [Fin.sum_univ_castSucc]
    refine (congrArg₂ (· + ·) (ih (Nat.lt_of_succ_lt h)) (step_apply o w q s ⟨l + 1, h⟩)).trans ?_
    exact add_right_comm _ _ _

theorem logit_apply (s : Fin 5) :
    logit o w b s.1 s.2 (ix2 q 0) = Row.logit (feats o q) (mixing w) (bias b) s :=
  logitTo_apply o w b q s 4 (by decide)

theorem topTo_apply (s : ℕ) (h : s < 5) :
    topTo o w b s h (ix2 q 0)
      = Finset.univ.fold max ⊥ fun k : Fin (s + 1) => Row.logit (feats o q) (mixing w) (bias b) ⟨k.1, by omega⟩ := by
  induction s with
  | zero =>
    refine (logit_apply o w b q ⟨0, h⟩).trans ?_
    rw [fold_max_succ]
    exact (max_eq_right bot_le).symm
  | succ s ih =>
    rw [fold_max_succ]
    exact congrArg₂ max (ih (Nat.lt_of_succ_lt h)) (logit_apply o w b q ⟨s + 1, h⟩)

theorem expo_apply (s : Fin 5) :
    expo o w b s.1 s.2 (ix2 q 0) = Row.expo (feats o q) (mixing w) (bias b) s :=
  congrArg Ideal.exp (congrArg₂ (· - ·) (logit_apply o w b q s) (topTo_apply o w b q 4 (by decide)))

theorem denTo_apply (s : ℕ) (h : s < 5) :
    denTo o w b s h (ix2 q 0) = ∑ k : Fin (s + 1), Row.expo (feats o q) (mixing w) (bias b) ⟨k.1, by omega⟩ := by
  induction s with
  | zero => rw [Fin.sum_univ_one]; exact expo_apply o w b q ⟨0, h⟩
  | succ s ih =>
    rw [Fin.sum_univ_castSucc]
    exact congrArg₂ (· + ·) (ih (Nat.lt_of_succ_lt h)) (expo_apply o w b q ⟨s + 1, h⟩)

theorem part_apply (s : Fin 5) (j : Fin 512) :
    part o w b s.1 s.2 (ix2 q j)
      = Row.expo (feats o q) (mixing w) (bias b) s * Ideal.div 1 (Row.den (feats o q) (mixing w) (bias b)) * feats o q s j := by
  pointwise [part]
  rw [expo_apply, denTo_apply, orows_apply]
  rfl

theorem fusedTo_apply (j : Fin 512) (s : ℕ) (h : s < 5) :
    fusedTo o w b s h (ix2 q j)
      = ∑ k : Fin (s + 1), Row.expo (feats o q) (mixing w) (bias b) ⟨k.1, by omega⟩
          * Ideal.div 1 (Row.den (feats o q) (mixing w) (bias b)) * feats o q ⟨k.1, by omega⟩ j := by
  induction s with
  | zero => rw [Fin.sum_univ_one]; exact part_apply o w b q ⟨0, h⟩ j
  | succ s ih =>
    rw [Fin.sum_univ_castSucc]
    exact congrArg₂ (· + ·) (ih (Nat.lt_of_succ_lt h)) (part_apply o w b q ⟨s + 1, h⟩ j)

/-- The block's fused rows are the mean of the features under the softmax's weights. -/
theorem fuse_apply (j : Fin 512) (hd : Row.den (feats o q) (mixing w) (bias b) ≠ 0) :
    fusedTo o w b 4 (by decide) (ix2 q j) = Row.fuse (feats o q) (mixing w) (bias b) j :=
  (fusedTo_apply o w b q j 4 (by decide)).trans (Row.fuse_eq_reciprocal hd j).symm

end Cert.KernelIdeal.Block

end
-- ==== Proof.Position.lean ====
/- The attention over the two position rows of a block, restated: the logits, their exponentials and the weights. -/
module

public import proofs.«01_k».proof.Proof.Block

@[expose] public section

set_option maxRecDepth 16384

noncomputable section

namespace Cert.KernelIdeal.Block

open Idealize.ShloMosaic Idealize.ShloMosaic.TcCoe Cert.KernelIdeal Cert.KernelIdeal.Gen

section Position

variable {F : FTy → Type} [FloatOps F] (x1 : Vec F S2x256x512 .f32) (w : Vec F S2x2 .f32) (b : Vec F S2 .f32)

theorem pat1_ok (s : ℕ) (hs : s < 2) : ∀ a, (![s] : Fin 1 → ℕ) a + S1.size a ≤ S2.size a := by
  interval_cases s <;> decide

theorem pat2_ok (s l : ℕ) (hs : s < 2) (hl : l < 2) : ∀ a, (![s, l] : Fin 2 → ℕ) a + S1x1.size a ≤ S2x2.size a := by
  interval_cases s <;> interval_cases l <;> decide

/-- Entry `s` of the position bias. -/
def pat1 (b : Vec F S2 .f32) (s : ℕ) (hs : s < 2) : Elt F .f32 :=
  View.ld b (Rect.unit ![s] ![1] (pat1_ok s hs)) (Shape.Idx.first (show 0 < S1.numel by decide))

/-- Entry `(s, l)` of the position mixing weights. -/
def pat2 (w : Vec F S2x2 .f32) (s l : ℕ) (hs : s < 2) (hl : l < 2) : Elt F .f32 :=
  View.ld w (Rect.unit ![s, l] ![1, 1] (pat2_ok s l hs hl)) (Shape.Idx.first (show 0 < S1x1.numel by decide))

/-- Logit `s` of the two position rows. -/
def plogit (s : ℕ) (hs : s < 2) : FVec F S256x1 .f32 :=
  addf (addf (broadcast S256x1 (pat1 b s hs))
      (mulf (score (k0_pay5 x1)) (broadcast S256x1 (pat2 w s 0 hs (by decide)))))
    (mulf (score (k0_pay6 x1)) (broadcast S256x1 (pat2 w s 1 hs (by decide))))

/-- The exponential of position logit `s` less the greater. -/
def pexpo (s : ℕ) (hs : s < 2) : FVec F S256x1 .f32 :=
  exp (subf (plogit x1 w b s hs) (maximumf (plogit x1 w b 0 (by decide)) (plogit x1 w b 1 (by decide))))

/-- The weight of position row `s`, along the lanes. -/
def pweight (s : ℕ) (hs : s < 2) : FVec F S256x512 .f32 :=
  broadcastTo S256x512
    (mulf (pexpo x1 w b s hs) (divf (broadcast S256x1 (Scalar.ofBits .f32 0x3F800000#32))
      (addf (pexpo x1 w b 0 (by decide)) (pexpo x1 w b 1 (by decide)))))
    broadcasts_S256x1_S256x512

end Position

end Cert.KernelIdeal.Block

end
-- ==== Proof.PositionFuse.lean ====
/- The attention over one token's two position rows, as a block computes it, entry by entry. -/
module

public import proofs.«01_k».proof.Proof.Position
public import proofs.«01_k».proof.Proof.BlockFuse

@[expose] public section

set_option maxRecDepth 16384

noncomputable section

namespace Cert.KernelIdeal.Block

open Idealize.ShloMosaic Idealize.ShloMosaic.TcCoe Cert.KernelIdeal Cert.KernelIdeal.Gen

variable (x1 : Vec Ideal S2x256x512 .f32) (w : Vec Ideal S2x2 .f32) (b : Vec Ideal S2 .f32) (q : Fin 256)

/-- Token `q`'s two position rows, their mixing weights and bias. -/
def pfeats : Fin 2 → Fin 512 → EReal := fun l k => x1 (ix3 l q k)

def pmixing : Fin 2 → Fin 2 → EReal := fun s l => w (ix2 s l)

def pbias : Fin 2 → EReal := fun s => b (ix1 s)

theorem row0_apply (j : Fin 512) : k0_pay5 x1 (ix2 q j) = pfeats x1 q 0 j := by
  pointwise [k0_pay5, k0_pay4]
  rfl

theorem row1_apply (j : Fin 512) : k0_pay6 x1 (ix2 q j) = pfeats x1 q 1 j := by
  pointwise [k0_pay6, k0_pay4]
  rfl

theorem pat1_apply (s : Fin 2) : pat1 b s.1 s.2 = pbias b s := by
  pointwise [pat1]
  rfl

theorem pat2_apply (s l : Fin 2) : pat2 w s.1 l.1 s.2 l.2 = pmixing w s l := by
  pointwise [pat2]
  rfl

theorem plogit_apply (s : Fin 2) :
    plogit x1 w b s.1 s.2 (ix2 q 0) = Row.logit (pfeats x1 q) (pmixing w) (pbias b) s := by
  have h0 : score (k0_pay5 x1) (ix2 q 0) = Row.score (pfeats x1 q 0) :=
    (score_apply _ q).trans (congrArg Row.score (funext (row0_apply x1 q)))
  have h1 : score (k0_pay6 x1) (ix2 q 0) = Row.score (pfeats x1 q 1) :=
    (score_apply _ q).trans (congrArg Row.score (funext (row1_apply x1 q)))
  rw [Row.logit, Fin.sum_univ_two, ← h0, ← h1, ← pat1_apply b s, ← pat2_apply w s 0, ← pat2_apply w s 1]
  pointwise [plogit]
  exact (add_assoc _ _ _).trans (add_comm _ _)

theorem ptop_apply :
    max (plogit x1 w b 0 (by decide) (ix2 q 0)) (plogit x1 w b 1 (by decide) (ix2 q 0))
      = Row.top (pfeats x1 q) (pmixing w) (pbias b) := by
  rw [Row.top, fold_max_succ, fold_max_succ]
  refine (congrArg₂ max (plogit_apply x1 w b q 0) (plogit_apply x1 w b q 1)).trans ?_
  exact congrArg (max · _) (max_eq_right bot_le).symm

theorem pexpo_apply (s : Fin 2) :
    pexpo x1 w b s.1 s.2 (ix2 q 0) = Row.expo (pfeats x1 q) (pmixing w) (pbias b) s :=
  congrArg Ideal.exp (congrArg₂ (· - ·) (plogit_apply x1 w b q s) (ptop_apply x1 w b q))

theorem pden_apply :
    pexpo x1 w b 0 (by decide) (ix2 q 0) + pexpo x1 w b 1 (by decide) (ix2 q 0)
      = Row.den (pfeats x1 q) (pmixing w) (pbias b) := by
  rw [Row.den, Fin.sum_univ_two]
  exact congrArg₂ (· + ·) (pexpo_apply x1 w b q 0) (pexpo_apply x1 w b q 1)

theorem pweight_apply (s : Fin 2) (j : Fin 512) :
    pweight x1 w b s.1 s.2 (ix2 q j)
      = Row.expo (pfeats x1 q) (pmixing w) (pbias b) s * Ideal.div 1 (Row.den (pfeats x1 q) (pmixing w) (pbias b)) := by
  rw [← pexpo_apply, ← pden_apply]
  pointwise [pweight]

/-- The two weighted rows are the mean of the position rows under the softmax's weights. -/
theorem pfuse_apply (j : Fin 512) (hd : Row.den (pfeats x1 q) (pmixing w) (pbias b) ≠ 0) :
    (pweight x1 w b 0 (by decide) (ix2 q j) * k0_pay5 x1 (ix2 q j) : EReal)
        + pweight x1 w b 1 (by decide) (ix2 q j) * k0_pay6 x1 (ix2 q j)
      = Row.fuse (pfeats x1 q) (pmixing w) (pbias b) j := by
  rw [Row.fuse_eq_reciprocal hd, Fin.sum_univ_two]
  exact congrArg₂ (· + ·) (congrArg₂ (· * ·) (pweight_apply x1 w b q 0 j) (row0_apply x1 q j))
    (congrArg₂ (· * ·) (pweight_apply x1 w b q 1 j) (row1_apply x1 q j))

end Cert.KernelIdeal.Block

end
-- ==== Proof.RefVec.lean ====
/- What the reference computes, restated: its mixer and its attention as functions of the arrays they read, so that the
   three streams are three uses of one function. -/
module

public import proofs.«01_k».proof.Proof.Gen.ReferenceIdeal.Run
public import Idealize.ShloMosaic.Lib.Pointwise

@[expose] public section

set_option maxRecDepth 16384

noncomputable section

namespace Cert.ReferenceIdeal.Vec

open Cert.ReferenceIdeal Cert.ReferenceIdeal.Gen Idealize.ShloMosaic Idealize.ShloMosaic.TcCoe Idealize.ShloMosaic.StableHlo

variable {F : FTy → Type} [FloatOps F]

/-! ### The mixer -/

/-- The constant `b` in every entry of a token-by-time-by-channel array. -/
def fill (b : BitVec 32) : FVec F S2048x5x1024 .f32 := broadcastInDim S2048x5x1024 ![] bcast_S_S2048x5x1024 (constant S_ .f32 b)

/-- A channel vector, for every token and time step. -/
def chan (b : FVec F S1024 .f32) : FVec F S2048x5x1024 .f32 :=
  broadcastInDim S2048x5x1024 ![0, 1, 2] bcast_S1x1x1024_S2048x5x1024_0_1_2 (broadcastInDim S1x1x1024 ![2] bcast_S1024_S1x1x1024_2 b)

/-- `v · (1 / (1 + e⁻ᵛ))`. -/
def silu (v : FVec F S2048x5x1024 .f32) : FVec F S2048x5x1024 .f32 :=
  mulf v (Host.divf (fill 0x3F800000#32) (addf (fill 0x3F800000#32) (Host.exp (Host.negf v))))

section Mixer

variable (x : FVec F S2048x5x512 .f32) (win : FVec F S2048x512 .f32) (wconv : FVec F S1024x4 .f32) (bconv : FVec F S1024 .f32)
  (wx : FVec F S64x1024 .f32) (wdt : FVec F S1024x32 .f32) (bdt : FVec F S1024 .f32) (alog : FVec F S1024x16 .f32)
  (dpar : FVec F S1024 .f32) (wout : FVec F S512x1024 .f32)

/-- The input projection. -/
def xz : FVec F S2048x5x2048 .f32 :=
  Host.dotGeneral dot_S2048x5x512_S512x2048_S2048x5x2048_2_0_01_1_n_n none x
    (transpose S512x2048 [1, 0] win transposes_S2048x512_S512x2048_1_0)

/-- The gate's half. -/
def gate : FVec F S2048x5x1024 .f32 :=
  extractStridedSlice S2048x5x1024 ![0, 0, 1024] (xz x win) slices_S2048x5x2048_S2048x5x1024_0_0_1024

/-- The convolution's half, with three time steps of 0 before the first. -/
def padded : FVec F S2048x8x1024 .f32 :=
  pad S2048x8x1024 ![0, 3, 0] ![0, 0, 0] ![0, 0, 0]
    (extractStridedSlice S2048x5x1024 ![0, 0, 0] (xz x win) slices_S2048x5x2048_S2048x5x1024_0_0_0)
    (sitofp .f32 (constantI S_ 32 0#32)) pads_S2048x5x1024_S2048x8x1024_000_300_000 h_S_

theorem shift_ok (k : ℕ) (h : k < 4) : S2048x8x1024.Slices ![0, k, 0] S2048x5x1024 := by
  interval_cases k <;> decide

theorem column_ok (k : ℕ) (h : k < 4) : S1024x4.Slices ![0, k] S1024x1 := by
  interval_cases k <;> decide

/-- The padded rows from row `k`, weighted by the convolution's weight `k`. -/
def shifted (k : ℕ) (h : k < 4) : FVec F S2048x5x1024 .f32 :=
  mulf (extractStridedSlice S2048x5x1024 ![0, k, 0] (padded x win) (shift_ok k h))
    (chan (shapeCast S1024 (extractStridedSlice S1024x1 ![0, k] wconv (column_ok k h)) shapeCasts_S1024x1_S1024))

/-- The activated convolution. -/
def xc : FVec F S2048x5x1024 .f32 :=
  silu (addf (addf (addf (addf (addf (fill 0x00000000#32) (shifted x win wconv 0 (by decide))) (shifted x win wconv 1 (by decide)))
    (shifted x win wconv 2 (by decide))) (shifted x win wconv 3 (by decide))) (chan bconv))

/-- Its projection to step size, input weights and output weights. -/
def dbl : FVec F S2048x5x64 .f32 :=
  Host.dotGeneral dot_S2048x5x1024_S1024x64_S2048x5x64_2_0_01_1_n_n none (xc x win wconv bconv)
    (transpose S1024x64 [1, 0] wx transposes_S64x1024_S1024x64_1_0)

/-- The step size before the softplus. -/
def rawStep : FVec F S2048x5x1024 .f32 :=
  addf (Host.dotGeneral dot_S2048x5x32_S32x1024_S2048x5x1024_2_0_01_1_n_n none
      (extractStridedSlice S2048x5x32 ![0, 0, 0] (dbl x win wconv bconv wx) slices_S2048x5x64_S2048x5x32_0_0_0)
      (transpose S32x1024 [1, 0] wdt transposes_S1024x32_S32x1024_1_0)) (chan bdt)

/-- The softplus. -/
def softplus (v : FVec F S2048x5x1024 .f32) : FVec F S2048x5x1024 .f32 :=
  select (cmpf .une (subf v (fill 0x00000000#32)) (subf v (fill 0x00000000#32))) (addf v (fill 0x00000000#32))
    (addf (maximumf v (fill 0x00000000#32)) (Host.log1p (Host.exp (Host.negf (Host.absf (subf v (fill 0x00000000#32)))))))

/-- The step size. -/
def dt : FVec F S2048x5x1024 .f32 := softplus (rawStep x win wconv bconv wx wdt bdt)

/-- A channel array, for every state. -/
def overStates (v : FVec F S2048x5x1024 .f32) : FVec F S2048x5x1024x16 .f32 :=
  broadcastInDim S2048x5x1024x16 ![0, 1, 2, 3] bcast_S2048x5x1024x1_S2048x5x1024x16_0_1_2_3
    (broadcastInDim S2048x5x1024x1 ![0, 1, 2] bcast_S2048x5x1024_S2048x5x1024x1_0_1_2 v)

/-- The states' factors. -/
def fade : FVec F S2048x5x1024x16 .f32 :=
  Host.exp (mulf (overStates (dt x win wconv bconv wx wdt bdt))
    (broadcastInDim S2048x5x1024x16 ![0, 1, 2, 3] bcast_S1x1x1024x16_S2048x5x1024x16_0_1_2_3
      (broadcastInDim S1x1x1024x16 ![2, 3] bcast_S1024x16_S1x1x1024x16_2_3 (Host.negf (Host.exp alog)))))

/-- What each time step adds to the states. -/
def drive : FVec F S2048x5x1024x16 .f32 :=
  mulf (mulf (overStates (dt x win wconv bconv wx wdt bdt))
      (broadcastInDim S2048x5x1024x16 ![0, 1, 2, 3] bcast_S2048x5x1x16_S2048x5x1024x16_0_1_2_3
        (broadcastInDim S2048x5x1x16 ![0, 1, 3] bcast_S2048x5x16_S2048x5x1x16_0_1_3
          (extractStridedSlice S2048x5x16 ![0, 0, 32] (dbl x win wconv bconv wx) slices_S2048x5x64_S2048x5x16_0_0_32))))
    (overStates (xc x win wconv bconv))

/-- The output weights. -/
def outWeights : FVec F S2048x5x16 .f32 :=
  extractStridedSlice S2048x5x16 ![0, 0, 48] (dbl x win wconv bconv wx) slices_S2048x5x64_S2048x5x16_0_0_48

theorem at4_ok (l : ℕ) (h : l < 5) : S2048x5x1024x16.Slices ![0, l, 0, 0] S2048x1x1024x16 := by
  interval_cases l <;> decide

theorem at3_ok (l : ℕ) (h : l < 5) : S2048x5x16.Slices ![0, l, 0] S2048x1x16 := by
  interval_cases l <;> decide

/-- Time step `l` of an array over the states. -/
def at4 (v : FVec F S2048x5x1024x16 .f32) (l : ℕ) (h : l < 5) : FVec F S2048x1024x16 .f32 :=
  shapeCast S2048x1024x16 (extractStridedSlice S2048x1x1024x16 ![0, l, 0, 0] v (at4_ok l h)) shapeCasts_S2048x1x1024x16_S2048x1024x16

/-- The states after time step `l`. -/
def states (a b : FVec F S2048x5x1024x16 .f32) : (l : ℕ) → l < 5 → FVec F S2048x1024x16 .f32
  | 0, h => addf (mulf (at4 a 0 h) (broadcastInDim S2048x1024x16 ![] bcast_S_S2048x1024x16 (constant S_ .f32 0x00000000#32))) (at4 b 0 h)
  | l + 1, h => addf (mulf (at4 a (l + 1) h) (states a b l (Nat.lt_of_succ_lt h))) (at4 b (l + 1) h)

/-- The states' weighted sum after time step `l`. -/
def readout (a b : FVec F S2048x5x1024x16 .f32) (w : FVec F S2048x5x16 .f32) (l : ℕ) (h : l < 5) : FVec F S2048x1x1024 .f32 :=
  broadcastInDim S2048x1x1024 ![0, 2] bcast_S2048x1024_S2048x1x1024_0_2
    (Host.dotGeneral dot_S2048x1024x16_S2048x16_S2048x1024_2_1_1_n_0_0 none (states a b l h)
      (shapeCast S2048x16 (extractStridedSlice S2048x1x16 ![0, l, 0] w (at3_ok l h)) shapeCasts_S2048x1x16_S2048x16))

/-- The five time steps' sums, along the time axis. -/
def readouts (a b : FVec F S2048x5x1024x16 .f32) (w : FVec F S2048x5x16 .f32) : FVec F S2048x5x1024 .f32 :=
  concatenate S2048x5x1024 1
    [⟨S2048x1x1024, readout a b w 0 (by decide)⟩, ⟨S2048x1x1024, readout a b w 1 (by decide)⟩,
     ⟨S2048x1x1024, readout a b w 2 (by decide)⟩, ⟨S2048x1x1024, readout a b w 3 (by decide)⟩,
     ⟨S2048x1x1024, readout a b w 4 (by decide)⟩]
    concatenates_S2048x1x1024_S2048x1x1024_S2048x1x1024_S2048x1x1024_S2048x1x1024_S2048x5x1024_d1

/-- The gated output. -/
def gated : FVec F S2048x5x1024 .f32 :=
  mulf (addf (readouts (fade x win wconv bconv wx wdt bdt alog) (drive x win wconv bconv wx wdt bdt) (outWeights x win wconv bconv wx))
    (mulf (chan dpar) (xc x win wconv bconv))) (silu (gate x win))

/-- The mixer's output. -/
def mixer : FVec F S2048x5x512 .f32 :=
  Host.dotGeneral dot_S2048x5x1024_S1024x512_S2048x5x512_2_0_01_1_n_n none (gated x win wconv bconv wx wdt bdt alog dpar)
    (transpose S1024x512 [1, 0] wout transposes_S512x1024_S1024x512_1_0)

end Mixer

/-! ### The attention over five rows -/

section Fuse

variable (f : FVec F S2048x5x512 .f32) (w : FVec F S5x5 .f32) (b : FVec F S5 .f32)

/-- The rows' greatest entries plus their means. -/
def score : FVec F S2048x5 .f32 :=
  addf (Host.reduce FloatOps.maximumf f (constant S_ .f32 0xFF800000#32) reducesTo_S2048x5x512_S2048x5_d2 h_S_)
    (Host.divf (Host.reduceAdd f (constant S_ .f32 0x00000000#32) reducesTo_S2048x5x512_S2048x5_d2 h_S_)
      (broadcastInDim S2048x5 ![] bcast_S_S2048x5 (constant S_ .f32 0x44000000#32)))

/-- The logits. -/
def logit : FVec F S2048x5 .f32 :=
  addf (Host.dotGeneral dot_S2048x5_S5x5_S2048x5_1_0_0_1_n_n none (score f) (transpose S5x5 [1, 0] w transposes_S5x5_S5x5_1_0))
    (broadcastInDim S2048x5 ![0, 1] bcast_S1x5_S2048x5_0_1 (broadcastInDim S1x5 ![1] bcast_S5_S1x5_1 b))

/-- One value per token, for every row. -/
def perRow (v : FVec F S2048 .f32) : FVec F S2048x5 .f32 :=
  broadcastInDim S2048x5 ![0, 1] bcast_S2048x1_S2048x5_0_1 (broadcastInDim S2048x1 ![0] bcast_S2048_S2048x1_0 v)

/-- The logits' exponentials, less each token's greatest. -/
def expo : FVec F S2048x5 .f32 :=
  Host.exp (subf (logit f w b) (perRow (maximumf (broadcastInDim S2048 ![] bcast_S_S2048 (constant S_ .f32 0xFF800000#32))
    (Host.reduce FloatOps.maximumf (logit f w b) (constant S_ .f32 0xFF800000#32) reducesTo_S2048x5_S2048_d1 h_S_))))

/-- The rows' mean under the softmax's weights. -/
def fuse : FVec F S2048x512 .f32 :=
  Host.reduceAdd (mulf f (broadcastInDim S2048x5x512 ![0, 1, 2] bcast_S2048x5x1_S2048x5x512_0_1_2
      (broadcastInDim S2048x5x1 ![0, 1] bcast_S2048x5_S2048x5x1_0_1 (Host.divf (expo f w b)
        (perRow (Host.reduceAdd (expo f w b) (constant S_ .f32 0x00000000#32) reducesTo_S2048x5_S2048_d1 h_S_))))))
    (constant S_ .f32 0x00000000#32) reducesTo_S2048x5x512_S2048x512_d1 h_S_

end Fuse

/-! ### The attention over the two position rows -/

section Position

variable (f : FVec F S2048x2x512 .f32) (w : FVec F S2x2 .f32) (b : FVec F S2 .f32)

def pscore : FVec F S2048x2 .f32 :=
  addf (Host.reduce FloatOps.maximumf f (constant S_ .f32 0xFF800000#32) reducesTo_S2048x2x512_S2048x2_d2 h_S_)
    (Host.divf (Host.reduceAdd f (constant S_ .f32 0x00000000#32) reducesTo_S2048x2x512_S2048x2_d2 h_S_)
      (broadcastInDim S2048x2 ![] bcast_S_S2048x2 (constant S_ .f32 0x44000000#32)))

def plogit : FVec F S2048x2 .f32 :=
  addf (Host.dotGeneral dot_S2048x2_S2x2_S2048x2_1_0_0_1_n_n none (pscore f) (transpose S2x2 [1, 0] w transposes_S2x2_S2x2_1_0))
    (broadcastInDim S2048x2 ![0, 1] bcast_S1x2_S2048x2_0_1 (broadcastInDim S1x2 ![1] bcast_S2_S1x2_1 b))

def perPosition (v : FVec F S2048 .f32) : FVec F S2048x2 .f32 :=
  broadcastInDim S2048x2 ![0, 1] bcast_S2048x1_S2048x2_0_1 (broadcastInDim S2048x1 ![0] bcast_S2048_S2048x1_0 v)

def pexpo : FVec F S2048x2 .f32 :=
  Host.exp (subf (plogit f w b) (perPosition (maximumf (broadcastInDim S2048 ![] bcast_S_S2048 (constant S_ .f32 0xFF800000#32))
    (Host.reduce FloatOps.maximumf (plogit f w b) (constant S_ .f32 0xFF800000#32) reducesTo_S2048x2_S2048_d1 h_S_))))

/-- The position rows' mean under the softmax's weights. -/
def pfuse : FVec F S2048x512 .f32 :=
  Host.reduceAdd (mulf f (broadcastInDim S2048x2x512 ![0, 1, 2] bcast_S2048x2x1_S2048x2x512_0_1_2
      (broadcastInDim S2048x2x1 ![0, 1] bcast_S2048x2_S2048x2x1_0_1 (Host.divf (pexpo f w b)
        (perPosition (Host.reduceAdd (pexpo f w b) (constant S_ .f32 0x00000000#32) reducesTo_S2048x2_S2048_d1 h_S_))))))
    (constant S_ .f32 0x00000000#32) reducesTo_S2048x2x512_S2048x512_d1 h_S_

end Position

/-! ### The composed terms are these functions of the arguments -/

section Composed

open Cert.ReferenceIdeal.Value

variable (V0 : Valuation τ sig (Elt F))

/-- The mixer on a stream, with the arguments' weights. -/
def mixerOf (x : FVec F S2048x5x512 .f32) : FVec F S2048x5x512 .f32 :=
  mixer x (V0 (Proc.devRef .tc main_arg4)) (V0 (Proc.devRef .tc main_arg5)) (V0 (Proc.devRef .tc main_arg6))
    (V0 (Proc.devRef .tc main_arg7)) (V0 (Proc.devRef .tc main_arg8)) (V0 (Proc.devRef .tc main_arg9))
    (V0 (Proc.devRef .tc main_arg10)) (V0 (Proc.devRef .tc main_arg11)) (V0 (Proc.devRef .tc main_arg12))

/-- A stream's contribution. -/
def streamOf (x : FVec F S2048x5x512 .f32) : FVec F S2048x512 .f32 :=
  fuse (mixerOf V0 x) (V0 (Proc.devRef .tc main_arg13)) (V0 (Proc.devRef .tc main_arg14))

theorem mixer_first : res_main_v124 V0 = mixerOf V0 (V0 (Proc.devRef .tc main_arg0)) := rfl

theorem mixer_second : res_main_v274 V0 = mixerOf V0 (V0 (Proc.devRef .tc main_arg1)) := rfl

theorem mixer_third : res_main_v425 V0 = mixerOf V0 (V0 (Proc.devRef .tc main_arg2)) := rfl

/-- The reference's result: the three streams' contributions plus the position rows'. -/
def total : FVec F S2048x512 .f32 :=
  addf (addf (addf (streamOf V0 (V0 (Proc.devRef .tc main_arg0))) (streamOf V0 (V0 (Proc.devRef .tc main_arg1))))
      (streamOf V0 (V0 (Proc.devRef .tc main_arg2))))
    (pfuse (V0 (Proc.devRef .tc main_arg3)) (V0 (Proc.devRef .tc main_arg15)) (V0 (Proc.devRef .tc main_arg16)))

end Composed

end Cert.ReferenceIdeal.Vec

end
-- ==== Proof.RefMix.lean ====
/- The reference's mixer, entry by entry: at token `t` and time step `l` every array of it is the mathematics of the
   token's row (Row.lean), where the convolution has no bias, the skip weight is 1 and the states' factors are the
   powers `1, …, 16` of one decay. -/
module

public import proofs.«01_k».proof.Proof.RefVec
public import proofs.«01_k».proof.Proof.Row

@[expose] public section

set_option maxRecDepth 16384

noncomputable section

namespace Cert.ReferenceIdeal.Vec

open Cert.ReferenceIdeal Cert.ReferenceIdeal.Gen Idealize.ShloMosaic Idealize.ShloMosaic.TcCoe Idealize.ShloMosaic.StableHlo

variable (x : FVec Ideal S2048x5x512 .f32) (win : FVec Ideal S2048x512 .f32) (wconv : FVec Ideal S1024x4 .f32)
  (bconv : FVec Ideal S1024 .f32) (wx : FVec Ideal S64x1024 .f32) (wdt : FVec Ideal S1024x32 .f32)
  (bdt : FVec Ideal S1024 .f32) (alog : FVec Ideal S1024x16 .f32) (dpar : FVec Ideal S1024 .f32)
  (wout : FVec Ideal S512x1024 .f32)

/-- The mixer's weights as the arrays hold them. -/
def weights : Row.Weights where
  win j k := win (ix2 j k)
  wconv d k := wconv (ix2 d k)
  wx e d := wx (ix2 e d)
  wdt d k := wdt (ix2 d k)
  bdt d := bdt (ix1 d)
  wout j d := wout (ix2 j d)

/-- Token `t`'s rows. -/
def tokens (t : Fin 2048) : Fin 5 → Fin 512 → EReal := fun l k => x (ix3 t l k)

theorem xz_apply (t : Fin 2048) (l : Fin 5) (j : Fin 2048) : xz x win (ix3 t l j) = Row.xz (weights win wconv wx wdt bdt wout) (tokens x t) l j := by
  pointwise [xz]
  rfl

theorem gate_apply (t : Fin 2048) (l : Fin 5) (d : Fin 1024) :
    gate x win (ix3 t l d) = Row.xz (weights win wconv wx wdt bdt wout) (tokens x t) l ⟨1024 + d.1, by omega⟩ := by
  pointwise [gate]
  exact xz_apply x win wconv wx wdt bdt wout t l ⟨1024 + d.1, by omega⟩

theorem sitofp_zero : (FloatOps.sitofp FTy.f32 (0#32 : BitVec 32) : Ideal .f32) = (0 : EReal) := by
  show (((0#32 : BitVec 32).toInt : ℝ) : EReal) = 0
  simp

theorem shifted_apply (t : Fin 2048) (l : Fin 5) (k : Fin 4) (d : Fin 1024) :
    shifted x win wconv k.1 k.2 (ix3 t l d) = Row.tap (weights win wconv wx wdt bdt wout) (tokens x t) l k d * (weights win wconv wx wdt bdt wout).wconv d k := by
  pointwise [shifted, chan]
  refine congrArg (· * wconv (ix2 d k)) ?_
  pointwise [padded]
  rw [Row.tap, sitofp_zero]
  have hk : k.1 + l.1 = l.1 + k.1 := add_comm _ _
  by_cases h : 3 ≤ l.1 + k.1
  · rw [dif_pos (by omega), if_pos h]
    simp only [hk]
    exact xz_apply x win wconv wx wdt bdt wout t ⟨l.1 + k.1 - 3, by omega⟩ ⟨d.1, by omega⟩
  · rw [dif_neg (by omega), if_neg h]

section Assumed

variable (hb : ∀ d, bconv (ix1 d) = (0 : EReal)) (hD : ∀ d, dpar (ix1 d) = (1 : EReal))
  (hA : ∀ (d : Fin 1024) (n : Fin 16), Ideal.exp (alog (ix2 d n)) = ((n.1 + 1 : ℝ) : EReal))

theorem silu_apply (v : FVec Ideal S2048x5x1024 .f32) (t : Fin 2048) (l : Fin 5) (d : Fin 1024) :
    silu v (ix3 t l d) = Row.silu (v (ix3 t l d)) := by
  pointwise [silu, fill]
  rfl

include hb in
theorem xc_apply (t : Fin 2048) (l : Fin 5) (d : Fin 1024) :
    xc x win wconv bconv (ix3 t l d) = Row.xc (weights win wconv wx wdt bdt wout) (tokens x t) l d := by
  have T := fun k => shifted_apply x win wconv wx wdt bdt wout t l k d
  unfold xc
  rw [silu_apply]
  refine congrArg Row.silu ?_
  pointwise [fill, chan]
  rw [hb, add_zero, Fin.sum_univ_four]
  exact congrArg₂ (· + ·) (congrArg₂ (· + ·) (congrArg₂ (· + ·) (T 0) (T 1)) (T 2)) (T 3)

include hb in
theorem dbl_apply (t : Fin 2048) (l : Fin 5) (e : Fin 64) :
    dbl x win wconv bconv wx (ix3 t l e) = Row.dbl (weights win wconv wx wdt bdt wout) (tokens x t) l e := by
  pointwise [dbl]
  exact Finset.sum_congr rfl fun d _ => congrArg (· * wx (ix2 e d)) (xc_apply x win wconv bconv wx wdt bdt wout hb t l d)

theorem softplus_apply (v : FVec Ideal S2048x5x1024 .f32) (t : Fin 2048) (l : Fin 5) (d : Fin 1024) :
    softplus v (ix3 t l d) = Row.softplus (v (ix3 t l d)) := by
  pointwise [softplus, fill]
  rw [if_neg (fun h => h rfl)]
  rfl

include hb in
theorem dt_apply (t : Fin 2048) (l : Fin 5) (d : Fin 1024) :
    dt x win wconv bconv wx wdt bdt (ix3 t l d) = Row.dt (weights win wconv wx wdt bdt wout) (tokens x t) l d := by
  unfold dt
  rw [softplus_apply]
  refine congrArg Row.softplus ?_
  pointwise [rawStep, chan]
  refine congrArg (· + bdt (ix1 d)) (Finset.sum_congr rfl fun k _ => congrArg (· * wdt (ix2 d k)) ?_)
  exact dbl_apply x win wconv bconv wx wdt bdt wout hb t l ⟨k.1, by omega⟩

include hb hA in
theorem fade_apply (t : Fin 2048) (l : Fin 5) (d : Fin 1024) (n : Fin 16) :
    fade x win wconv bconv wx wdt bdt alog (ix4 t l d n) = Row.fade (weights win wconv wx wdt bdt wout) (tokens x t) l n.1 d := by
  pointwise [fade, overStates]
  rw [dt_apply x win wconv bconv wx wdt bdt wout hb, hA, ← EReal.coe_neg]
  rfl

include hb in
theorem drive_apply (t : Fin 2048) (l : Fin 5) (d : Fin 1024) (n : Fin 16) :
    drive x win wconv bconv wx wdt bdt (ix4 t l d n) = Row.drive (weights win wconv wx wdt bdt wout) (tokens x t) l n d := by
  pointwise [drive, overStates]
  rw [dt_apply x win wconv bconv wx wdt bdt wout hb, xc_apply x win wconv bconv wx wdt bdt wout hb,
    dbl_apply x win wconv bconv wx wdt bdt wout hb t l ⟨32 + n.1, by omega⟩]
  rfl

theorem at4_apply (v : FVec Ideal S2048x5x1024x16 .f32) (l : Fin 5) (t : Fin 2048) (d : Fin 1024) (n : Fin 16) :
    at4 v l.1 l.2 (ix3 t d n) = v (ix4 t l d n) := by
  pointwise [at4]

include hb hA in
theorem states_apply (t : Fin 2048) (d : Fin 1024) (n : Fin 16) (l : ℕ) (h : l < 5) :
    states (fade x win wconv bconv wx wdt bdt alog) (drive x win wconv bconv wx wdt bdt) l h (ix3 t d n)
      = Row.state (weights win wconv wx wdt bdt wout) (tokens x t) n d l h := by
  have A := fun l => fade_apply x win wconv bconv wx wdt bdt alog wout hb hA t l d n
  have B := fun l => drive_apply x win wconv bconv wx wdt bdt wout hb t l d n
  induction l with
  | zero =>
    pointwise [states]
    refine Eq.trans ?_ ((at4_apply _ ⟨0, h⟩ t d n).trans (B ⟨0, h⟩))
    rw [mul_zero, zero_add]
  | succ l ih =>
    refine congrArg₂ (· + ·) (congrArg₂ (· * ·) ((at4_apply _ ⟨l + 1, h⟩ t d n).trans (A ⟨l + 1, h⟩)) (ih _))
      ((at4_apply _ ⟨l + 1, h⟩ t d n).trans (B ⟨l + 1, h⟩))

include hb hA in
theorem readout_apply (t : Fin 2048) (d : Fin 1024) (l : ℕ) (h : l < 5) :
    readout (fade x win wconv bconv wx wdt bdt alog) (drive x win wconv bconv wx wdt bdt) (outWeights x win wconv bconv wx) l h
        (ix3 t 0 d)
      = ∑ n, Row.state (weights win wconv wx wdt bdt wout) (tokens x t) n d l h * Row.dbl (weights win wconv wx wdt bdt wout) (tokens x t) ⟨l, h⟩ ⟨48 + n.1, by omega⟩ := by
  pointwise [readout, outWeights]
  refine Finset.sum_congr rfl fun n _ => congrArg₂ (· * ·) (states_apply x win wconv bconv wx wdt bdt alog wout hb hA t d n l h) ?_
  exact dbl_apply x win wconv bconv wx wdt bdt wout hb t ⟨l, h⟩ ⟨48 + n.1, by omega⟩

theorem readouts_apply (a b : FVec Ideal S2048x5x1024x16 .f32) (w : FVec Ideal S2048x5x16 .f32) (t : Fin 2048) (l : Fin 5)
    (d : Fin 1024) : readouts a b w (ix3 t l d) = readout a b w l.1 l.2 (ix3 t 0 d) := by
  pointwise [readouts]
  fin_cases l <;> rfl

include hb hD hA in
theorem gated_apply (t : Fin 2048) (l : Fin 5) (d : Fin 1024) :
    gated x win wconv bconv wx wdt bdt alog dpar (ix3 t l d) = Row.gated (weights win wconv wx wdt bdt wout) (tokens x t) l d := by
  have S := (silu_apply (gate x win) t l d).trans
    (congrArg Row.silu (gate_apply x win wconv wx wdt bdt wout t l d))
  have X := xc_apply x win wconv bconv wx wdt bdt wout hb t l d
  have R := (readouts_apply (fade x win wconv bconv wx wdt bdt alog) (drive x win wconv bconv wx wdt bdt)
    (outWeights x win wconv bconv wx) t l d).trans (readout_apply x win wconv bconv wx wdt bdt alog wout hb hA t d l.1 l.2)
  have D : mulf (chan dpar) (xc x win wconv bconv) (ix3 t l d) = Row.xc (weights win wconv wx wdt bdt wout) (tokens x t) l d := by
    pointwise [chan]
    rw [hD, X, one_mul]
  exact congrArg₂ (· * ·) (congrArg₂ (· + ·) R D) S

include hb hD hA in
/-- The mixer's output at token `t` and time step `l`. -/
theorem mixer_apply (t : Fin 2048) (l : Fin 5) (j : Fin 512) :
    mixer x win wconv bconv wx wdt bdt alog dpar wout (ix3 t l j) = Row.mix (weights win wconv wx wdt bdt wout) (tokens x t) l j := by
  pointwise [mixer]
  exact Finset.sum_congr rfl fun d _ => congrArg (· * wout (ix2 j d))
    (gated_apply x win wconv bconv wx wdt bdt alog dpar wout hb hD hA t l d)

end Assumed

end Cert.ReferenceIdeal.Vec

end
-- ==== Proof.RefFuse.lean ====
/- The reference's attention, entry by entry: at token `t` it is the mathematics of the token's rows (Row.lean), over
   five time steps and over the two position rows. -/
module

public import proofs.«01_k».proof.Proof.RefVec
public import proofs.«01_k».proof.Proof.Row

@[expose] public section

set_option maxRecDepth 16384

noncomputable section

namespace Cert.ReferenceIdeal.Vec

open Cert.ReferenceIdeal Cert.ReferenceIdeal.Gen Idealize.ShloMosaic Idealize.ShloMosaic.TcCoe Idealize.ShloMosaic.StableHlo

theorem neg_inf_word : Ideal.ofBits .f32 0xFF800000#32 = ⊥ := by simp [Ideal.ofBits, Ideal.ieee]

/-- A quotient by 512 is a product with its reciprocal. -/
theorem div_512 (x : EReal) : Ideal.div x (Ideal.ofBits .f32 0x44000000#32) = x * ((1 / 512 : ℝ) : EReal) := by
  have e : Ideal.ofBits .f32 0x44000000#32 = ((512 : ℝ) : EReal) := by
    simp [Ideal.ofBits, Ideal.ieee]
    rw [← EReal.coe_mul]
    norm_num
  rw [e, Ideal.div_coe (by norm_num)]

/-! Elementwise operations at one index. -/

theorem addf_at {S : Shape} (a b : FVec Ideal S .f32) (i) : addf a b i = a i + b i := rfl

theorem subf_at {S : Shape} (a b : FVec Ideal S .f32) (i) : subf a b i = a i - b i := rfl

theorem divf_at {S : Shape} (a b : FVec Ideal S .f32) (i) : Host.divf a b i = Ideal.div (a i) (b i) := rfl

theorem exp_at {S : Shape} (a : FVec Ideal S .f32) (i) : Host.exp a i = Ideal.exp (a i) := rfl

/-! ### Five rows -/

section Five

variable (f : FVec Ideal S2048x5x512 .f32) (w : FVec Ideal S5x5 .f32) (b : FVec Ideal S5 .f32) (t : Fin 2048)

/-- Token `t`'s rows, the mixing weights and the bias. -/
def feats : Fin 5 → Fin 512 → EReal := fun l k => f (ix3 t l k)

def mixing : Fin 5 → Fin 5 → EReal := fun s l => w (ix2 s l)

def bias : Fin 5 → EReal := fun s => b (ix1 s)

theorem greatest_apply (l : Fin 5) :
    Host.reduce FloatOps.maximumf f (constant S_ .f32 0xFF800000#32) reducesTo_S2048x5x512_S2048x5_d2 h_S_ (ix2 t l)
      = Finset.univ.fold max ⊥ fun k => f (ix3 t l k) := by
  pointwise []
  rw [neg_inf_word]

theorem sum_apply (l : Fin 5) :
    Host.reduceAdd f (constant S_ .f32 0x00000000#32) reducesTo_S2048x5x512_S2048x5_d2 h_S_ (ix2 t l)
      = ∑ k, f (ix3 t l k) := by
  pointwise []

theorem width_apply (l : Fin 5) :
    broadcastInDim S2048x5 ![] bcast_S_S2048x5 (constant (F := Ideal) S_ .f32 0x44000000#32) (ix2 t l)
      = Ideal.ofBits .f32 0x44000000#32 := by
  pointwise []

theorem score_apply (l : Fin 5) : score f (ix2 t l) = Row.score (feats f t l) := by
  rw [score, addf_at, divf_at, greatest_apply, sum_apply, width_apply, div_512]
  rfl

theorem mix_apply (v : FVec Ideal S2048x5 .f32) (s : Fin 5) :
    Host.dotGeneral dot_S2048x5_S5x5_S2048x5_1_0_0_1_n_n none v (transpose S5x5 [1, 0] w transposes_S5x5_S5x5_1_0) (ix2 t s)
      = ∑ l, v (ix2 t l) * w (ix2 s l) := by
  pointwise []

theorem bias_apply (s : Fin 5) :
    broadcastInDim S2048x5 ![0, 1] bcast_S1x5_S2048x5_0_1 (broadcastInDim S1x5 ![1] bcast_S5_S1x5_1 b) (ix2 t s)
      = b (ix1 s) := by
  pointwise []

theorem logit_apply (s : Fin 5) : logit f w b (ix2 t s) = Row.logit (feats f t) (mixing w) (bias b) s := by
  rw [logit, addf_at, mix_apply, bias_apply]
  simp only [score_apply]
  rfl

theorem perRow_apply (v : FVec Ideal S2048 .f32) (s : Fin 5) : perRow v (ix2 t s) = v (ix1 t) := by
  pointwise [perRow]

theorem top_apply (v : FVec Ideal S2048x5 .f32) :
    maximumf (broadcastInDim S2048 ![] bcast_S_S2048 (constant S_ .f32 0xFF800000#32))
        (Host.reduce FloatOps.maximumf v (constant S_ .f32 0xFF800000#32) reducesTo_S2048x5_S2048_d1 h_S_) (ix1 t)
      = Finset.univ.fold max ⊥ fun s => v (ix2 t s) := by
  pointwise []
  rw [neg_inf_word]
  exact max_eq_right bot_le

theorem expo_apply (s : Fin 5) : expo f w b (ix2 t s) = Row.expo (feats f t) (mixing w) (bias b) s := by
  rw [expo, exp_at, subf_at, perRow_apply, top_apply]
  simp only [logit_apply]
  rfl

/-- The rows' mean under the softmax's weights. -/
theorem fuse_apply (j : Fin 512) : fuse f w b (ix2 t j) = Row.fuse (feats f t) (mixing w) (bias b) j := by
  have e (h : FVec Ideal S2048x5 .f32) :
      Host.reduceAdd (mulf f (broadcastInDim S2048x5x512 ![0, 1, 2] bcast_S2048x5x1_S2048x5x512_0_1_2
        (broadcastInDim S2048x5x1 ![0, 1] bcast_S2048x5_S2048x5x1_0_1 h)))
        (constant S_ .f32 0x00000000#32) reducesTo_S2048x5x512_S2048x512_d1 h_S_ (ix2 t j)
        = ∑ s, f (ix3 t s j) * h (ix2 t s) := by
    pointwise []
  have d (h : FVec Ideal S2048x5 .f32) :
      Host.reduceAdd h (constant S_ .f32 0x00000000#32) reducesTo_S2048x5_S2048_d1 h_S_ (ix1 t) = ∑ s, h (ix2 t s) := by
    pointwise []
  rw [fuse, e]
  simp only [divf_at, perRow_apply, d, expo_apply]
  rfl

end Five

/-! ### The two position rows -/

section Two

variable (f : FVec Ideal S2048x2x512 .f32) (w : FVec Ideal S2x2 .f32) (b : FVec Ideal S2 .f32) (t : Fin 2048)

/-- Token `t`'s position rows, their mixing weights and bias. -/
def pfeats : Fin 2 → Fin 512 → EReal := fun l k => f (ix3 t l k)

def pmixing : Fin 2 → Fin 2 → EReal := fun s l => w (ix2 s l)

def pbias : Fin 2 → EReal := fun s => b (ix1 s)

theorem pgreatest_apply (l : Fin 2) :
    Host.reduce FloatOps.maximumf f (constant S_ .f32 0xFF800000#32) reducesTo_S2048x2x512_S2048x2_d2 h_S_ (ix2 t l)
      = Finset.univ.fold max ⊥ fun k => f (ix3 t l k) := by
  pointwise []
  rw [neg_inf_word]

theorem psum_apply (l : Fin 2) :
    Host.reduceAdd f (constant S_ .f32 0x00000000#32) reducesTo_S2048x2x512_S2048x2_d2 h_S_ (ix2 t l)
      = ∑ k, f (ix3 t l k) := by
  pointwise []

theorem pwidth_apply (l : Fin 2) :
    broadcastInDim S2048x2 ![] bcast_S_S2048x2 (constant (F := Ideal) S_ .f32 0x44000000#32) (ix2 t l)
      = Ideal.ofBits .f32 0x44000000#32 := by
  pointwise []

theorem pscore_apply (l : Fin 2) : pscore f (ix2 t l) = Row.score (pfeats f t l) := by
  rw [pscore, addf_at, divf_at, pgreatest_apply, psum_apply, pwidth_apply, div_512]
  rfl

theorem pmix_apply (v : FVec Ideal S2048x2 .f32) (s : Fin 2) :
    Host.dotGeneral dot_S2048x2_S2x2_S2048x2_1_0_0_1_n_n none v (transpose S2x2 [1, 0] w transposes_S2x2_S2x2_1_0) (ix2 t s)
      = ∑ l, v (ix2 t l) * w (ix2 s l) := by
  pointwise []

theorem pbias_apply (s : Fin 2) :
    broadcastInDim S2048x2 ![0, 1] bcast_S1x2_S2048x2_0_1 (broadcastInDim S1x2 ![1] bcast_S2_S1x2_1 b) (ix2 t s)
      = b (ix1 s) := by
  pointwise []

theorem plogit_apply (s : Fin 2) : plogit f w b (ix2 t s) = Row.logit (pfeats f t) (pmixing w) (pbias b) s := by
  rw [plogit, addf_at, pmix_apply, pbias_apply]
  simp only [pscore_apply]
  rfl

theorem perPosition_apply (v : FVec Ideal S2048 .f32) (s : Fin 2) : perPosition v (ix2 t s) = v (ix1 t) := by
  pointwise [perPosition]

theorem ptop_apply (v : FVec Ideal S2048x2 .f32) :
    maximumf (broadcastInDim S2048 ![] bcast_S_S2048 (constant S_ .f32 0xFF800000#32))
        (Host.reduce FloatOps.maximumf v (constant S_ .f32 0xFF800000#32) reducesTo_S2048x2_S2048_d1 h_S_) (ix1 t)
      = Finset.univ.fold max ⊥ fun s => v (ix2 t s) := by
  pointwise []
  rw [neg_inf_word]
  exact max_eq_right bot_le

theorem pexpo_apply (s : Fin 2) : pexpo f w b (ix2 t s) = Row.expo (pfeats f t) (pmixing w) (pbias b) s := by
  rw [pexpo, exp_at, subf_at, perPosition_apply, ptop_apply]
  simp only [plogit_apply]
  rfl

/-- The position rows' mean under the softmax's weights. -/
theorem pfuse_apply (j : Fin 512) : pfuse f w b (ix2 t j) = Row.fuse (pfeats f t) (pmixing w) (pbias b) j := by
  have e (h : FVec Ideal S2048x2 .f32) :
      Host.reduceAdd (mulf f (broadcastInDim S2048x2x512 ![0, 1, 2] bcast_S2048x2x1_S2048x2x512_0_1_2
        (broadcastInDim S2048x2x1 ![0, 1] bcast_S2048x2_S2048x2x1_0_1 h)))
        (constant S_ .f32 0x00000000#32) reducesTo_S2048x2x512_S2048x512_d1 h_S_ (ix2 t j)
        = ∑ s, f (ix3 t s j) * h (ix2 t s) := by
    pointwise []
  have d (h : FVec Ideal S2048x2 .f32) :
      Host.reduceAdd h (constant S_ .f32 0x00000000#32) reducesTo_S2048x2_S2048_d1 h_S_ (ix1 t) = ∑ s, h (ix2 t s) := by
    pointwise []
  rw [pfuse, e]
  simp only [divf_at, perPosition_apply, d, pexpo_apply]
  rfl

end Two

end Cert.ReferenceIdeal.Vec

end
-- ==== Proof.Reads.lean ====
/- What a grid point's blocks hold of the arguments: point `t` works on the 256 tokens from `256 * (t / 3)` of stream
   `t % 3`; the weights' blocks are the arrays transposed, whole at every point. -/
module

public import proofs.«01_k».proof.Proof.BlockMix
public import proofs.«01_k».proof.Proof.BlockFuse
public import proofs.«01_k».proof.Proof.PositionFuse
public import proofs.«01_k».proof.Proof.RefMix
public import proofs.«01_k».proof.Proof.RefFuse
public import proofs.«01_k».proof.Proof.Gen.KernelIdeal.Value
public import Idealize.ShloMosaic.Lib.Pipeline.ValueKit

@[expose] public section

set_option maxRecDepth 16384

noncomputable section

namespace Cert.KernelIdeal.Block

open Idealize.ShloMosaic Idealize.ShloMosaic.TcCoe Cert.KernelIdeal Cert.KernelIdeal.Gen

/-- The three streams one above the other, time step before token. -/
def streams (a b e : FVec Ideal S2048x5x512 .f32) : FVec Ideal S3x5x2048x512 .bf16 :=
  truncf .bf16 (transpose S3x5x2048x512 [0, 2, 1, 3] (concatenate S3x2048x5x512 0
      [⟨S1x2048x5x512, broadcastInDim S1x2048x5x512 ![1, 2, 3] bcast_S2048x5x512_S1x2048x5x512_1_2_3 a⟩,
       ⟨S1x2048x5x512, broadcastInDim S1x2048x5x512 ![1, 2, 3] bcast_S2048x5x512_S1x2048x5x512_1_2_3 b⟩,
       ⟨S1x2048x5x512, broadcastInDim S1x2048x5x512 ![1, 2, 3] bcast_S2048x5x512_S1x2048x5x512_1_2_3 e⟩]
      concatenates_S1x2048x5x512_S1x2048x5x512_S1x2048x5x512_S3x2048x5x512_d0)
    transposes_S3x2048x5x512_S3x5x2048x512_0_2_1_3) bitsLt_bf16_f32

theorem streams_apply (a : Fin 3 → FVec Ideal S2048x5x512 .f32) (s : Fin 3) (l : Fin 5) (t : Fin 2048) (k : Fin 512) :
    streams (a 0) (a 1) (a 2) (ix4 s l t k) = a s (ix3 t l k) := by
  fin_cases s
  · pointwise [streams]
  · pointwise [streams]
  · pointwise [streams]

variable (m : (ℓ : Loc nD τ sig) → Buf (Elt Ideal) ℓ) (c : Dev nD) (t : Fin cfg0.N)

/-- The three streams as launched. -/
def streamArg : Fin 3 → FVec Ideal S2048x5x512 .f32 :=
  ![m (c.tc.loc main_arg0), m (c.tc.loc main_arg1), m (c.tc.loc main_arg2)]

theorem streams_entry : V m c main_v5 = streams (streamArg m c 0) (streamArg m c 1) (streamArg m c 2) := rfl

/-- Where each window's block lies. -/
theorem idx : ∀ t : Fin grid0.N, win0_0.index t = ![t.val % 3, 0, t.val / 3, 0] ∧ win0_1.index t = ![0, t.val / 3, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0]
    ∧ win0_10.index t = ![0, 0] ∧ win0_11.index t = ![0] ∧ win0_12.index t = ![t.val / 3, 0] := by
  decide +kernel

/-- Point `t`'s token `q` among all tokens. -/
def row (q : Fin 256) : Fin 2048 :=
  ⟨256 * (t.val / 3) + q.val, by have h : t.val < 24 := t.isLt; have := q.isLt; omega⟩

theorem stream_read (s : Fin 3) (h : t.val % 3 = s.val) (l : Fin 5) (q : Fin 256) (k : Fin 512) :
    iblk m c 0 t (ix4 0 l q k) = streamArg m c s (ix3 (row t q) l k) := by
  have e : iblk m c 0 t (ix4 0 l q k) = V m c main_v5 (ix4 s l (row t q) k) := by
    unfold row
    blk_ext [iblk, V, idx t]
  rw [e, streams_entry, streams_apply]

theorem position_read (l : Fin 2) (q : Fin 256) (k : Fin 512) :
    iblk m c 1 t (ix3 l q k) = m (c.tc.loc main_arg3) (ix3 (row t q) l k) := by
  unfold row
  blk_ext! [iblk, V, idx t]

theorem win_read (k : Fin 512) (j : Fin 2048) : iblk m c 2 t (ix2 k j) = m (c.tc.loc main_arg4) (ix2 j k) := by
  blk_ext! [iblk, V, idx t]

theorem wconv_read (k : Fin 4) (d : Fin 1024) : iblk m c 3 t (ix2 k d) = m (c.tc.loc main_arg5) (ix2 d k) := by
  blk_ext! [iblk, V, idx t]

theorem wx_read (d : Fin 1024) (e : Fin 64) : iblk m c 4 t (ix2 d e) = m (c.tc.loc main_arg7) (ix2 e d) := by
  blk_ext! [iblk, V, idx t]

theorem wdt_read (k : Fin 32) (d : Fin 1024) : iblk m c 5 t (ix2 k d) = m (c.tc.loc main_arg8) (ix2 d k) := by
  blk_ext! [iblk, V, idx t]

theorem bdt_read (d : Fin 1024) : iblk m c 6 t (ix2 0 d) = m (c.tc.loc main_arg9) (ix1 d) := by
  blk_ext! [iblk, V, idx t]

theorem wout_read (d : Fin 1024) (j : Fin 512) : iblk m c 7 t (ix2 d j) = m (c.tc.loc main_arg12) (ix2 j d) := by
  blk_ext! [iblk, V, idx t]

theorem wmlp_read (s l : Fin 5) : iblk m c 8 t (ix2 s l) = m (c.tc.loc main_arg13) (ix2 s l) := by
  blk_ext! [iblk, V, idx t]

theorem bmlp_read (s : Fin 5) : iblk m c 9 t (ix1 s) = m (c.tc.loc main_arg14) (ix1 s) := by
  blk_ext! [iblk, V, idx t]

theorem wgps_read (s l : Fin 2) : iblk m c 10 t (ix2 s l) = m (c.tc.loc main_arg15) (ix2 s l) := by
  blk_ext! [iblk, V, idx t]

theorem bgps_read (s : Fin 2) : iblk m c 11 t (ix1 s) = m (c.tc.loc main_arg16) (ix1 s) := by
  blk_ext! [iblk, V, idx t]

/-! ### The same, of whole rows and weights -/

/-- The mixer's weights as launched. -/
def weightsArg : Row.Weights :=
  ReferenceIdeal.Vec.weights (m (c.tc.loc main_arg4)) (m (c.tc.loc main_arg5)) (m (c.tc.loc main_arg7))
    (m (c.tc.loc main_arg8)) (m (c.tc.loc main_arg9)) (m (c.tc.loc main_arg12))

theorem weights_read :
    weights (iblk m c 2 t) (iblk m c 3 t) (iblk m c 4 t) (iblk m c 5 t) (iblk m c 6 t) (iblk m c 7 t) = weightsArg m c := by
  have e1 := funext fun j => funext fun k => win_read m c t k j
  have e2 := funext fun d => funext fun k => wconv_read m c t k d
  have e3 := funext fun e => funext fun d => wx_read m c t d e
  have e4 := funext fun d => funext fun k => wdt_read m c t k d
  have e5 := funext fun d => bdt_read m c t d
  have e6 := funext fun j => funext fun d => wout_read m c t d j
  exact Row.Weights.mk.injEq .. ▸ ⟨e1, e2, e3, e4, e5, e6⟩

theorem tokens_read (s : Fin 3) (h : t.val % 3 = s.val) (q : Fin 256) :
    tokens (iblk m c 0 t) q = ReferenceIdeal.Vec.tokens (streamArg m c s) (row t q) :=
  funext fun l => funext fun k => stream_read m c t s h l q k

theorem mixing_read : mixing (iblk m c 8 t) = ReferenceIdeal.Vec.mixing (m (c.tc.loc main_arg13)) :=
  funext fun s => funext fun l => wmlp_read m c t s l

theorem bias_read : bias (iblk m c 9 t) = ReferenceIdeal.Vec.bias (m (c.tc.loc main_arg14)) :=
  funext fun s => bmlp_read m c t s

theorem pfeats_read (q : Fin 256) :
    pfeats (iblk m c 1 t) q = ReferenceIdeal.Vec.pfeats (m (c.tc.loc main_arg3)) (row t q) :=
  funext fun l => funext fun k => position_read m c t l q k

theorem pmixing_read : pmixing (iblk m c 10 t) = ReferenceIdeal.Vec.pmixing (m (c.tc.loc main_arg15)) :=
  funext fun s => funext fun l => wgps_read m c t s l

theorem pbias_read : pbias (iblk m c 11 t) = ReferenceIdeal.Vec.pbias (m (c.tc.loc main_arg16)) :=
  funext fun s => bgps_read m c t s

end Cert.KernelIdeal.Block

end
-- ==== Proof.OutsA.lean ====
/- What the first point of a block's run leaves: the first stream's contribution plus the two weighted position rows. -/
module

public import proofs.«01_k».proof.Proof.Position

@[expose] public section

set_option maxRecDepth 16384

noncomputable section

namespace Cert.KernelIdeal.Block

open Idealize.ShloMosaic Idealize.ShloMosaic.TcCoe Cert.KernelIdeal Cert.KernelIdeal.Gen

variable (m : (ℓ : Loc nD τ sig) → Buf (Elt Ideal) ℓ)

set_option maxHeartbeats 4000000 in
/-- The first point of a run leaves its stream's contribution plus the two weighted position rows. -/
theorem outs_first (c : Dev nD) (t : Fin cfg0.N) (h0 : t.val % 3 = 0) (h1 : ¬ 1 ≤ t.val % 3) :
    outsAt0 m c t.val t.isLt
      = addf (addf (fused (iblk m c 0 t) (iblk m c 2 t) (iblk m c 3 t) (iblk m c 4 t) (iblk m c 5 t) (iblk m c 6 t)
            (iblk m c 7 t) (iblk m c 8 t) (iblk m c 9 t))
          (mulf (pweight (iblk m c 1 t) (iblk m c 10 t) (iblk m c 11 t) 0 (by decide)) (k0_pay5 (iblk m c 1 t))))
        (mulf (pweight (iblk m c 1 t) (iblk m c 10 t) (iblk m c 11 t) 1 (by decide)) (k0_pay6 (iblk m c 1 t))) := by
  rw [outsAt0_A m c t h0 h1]
  frame_out
  rfl

end Cert.KernelIdeal.Block

end
-- ==== Proof.OutsB.lean ====
/- What a later point of a block's run leaves: what was there plus its stream's contribution. -/
module

public import proofs.«01_k».proof.Proof.Block

@[expose] public section

set_option maxRecDepth 16384

noncomputable section

namespace Cert.KernelIdeal.Block

open Idealize.ShloMosaic Idealize.ShloMosaic.TcCoe Cert.KernelIdeal Cert.KernelIdeal.Gen

variable (m : (ℓ : Loc nD τ sig) → Buf (Elt Ideal) ℓ)

/-- The contribution of the stream at grid point `t`. -/
abbrev fusedAt (c : Dev nD) (t : Fin cfg0.N) : FVec Ideal S256x512 .f32 :=
  fused (iblk m c 0 t) (iblk m c 2 t) (iblk m c 3 t) (iblk m c 4 t) (iblk m c 5 t) (iblk m c 6 t) (iblk m c 7 t)
    (iblk m c 8 t) (iblk m c 9 t)

set_option maxHeartbeats 4000000 in
/-- A point that does not start a run adds its stream's contribution to what the point before left. -/
theorem outs_later (c : Dev nD) (t : Fin cfg0.N) (h0 : ¬ t.val % 3 = 0) (h1 : 1 ≤ t.val % 3) :
    outsAt0 m c t.val t.isLt
      = addf (shapeCast S256x512 (outsAt0 m c (t.val - 1) (Nat.lt_of_le_of_lt (Nat.sub_le _ _) t.isLt))
          shapeCasts_S256x512_S256x512) (fusedAt m c t) := by
  rw [outsAt0_B m c t h0 h1]
  frame_out
  rfl

end Cert.KernelIdeal.Block

end
-- ==== Proof.Given.lean ====
/- What the precondition says of the arguments: the convolution has no bias, the skip weight is 1, the state's factors
   are the logarithms of 1, …, 16, and every entry of the other arguments is a real number. -/
module

public import proofs.«01_k».proof.Proof.Row
public import proofs.«01_k».proof.Proof.Gen.Pre_mamba_defaults
public import Idealize.ShloMosaic.Lib.ReduceAll
public import Idealize.ShloMosaic.Lib.Pointwise

@[expose] public section

set_option maxRecDepth 16384

noncomputable section

namespace Cert.Pre_mamba_defaults

open Cert.Pre_mamba_defaults.Gen Idealize.ShloMosaic Idealize.ShloMosaic.TcCoe Idealize.ShloMosaic.StableHlo

open Cert.Row (IsReal)

/-- An ordered comparison for equality that came out 1. -/
theorem eq_of_cmp {x y : EReal} (h : Ideal.cmp .oeq x y = 1#1) : x = y := by
  by_contra hne
  simp [Ideal.cmp, hne] at h

/-- A value whose magnitude is below the infinite word's is a real number. -/
theorem real_of_cmp {x : EReal} (h : Ideal.cmp .olt (max x (-x)) (Ideal.ofBits .f32 0x7F800000#32) = 1#1) : IsReal x := by
  have e : Ideal.ofBits .f32 0x7F800000#32 = ⊤ := by simp [Ideal.ofBits, Ideal.ieee]
  rw [e] at h
  induction x with
  | bot => simp [Ideal.cmp] at h
  | coe r => exact ⟨r, rfl⟩
  | top => simp [Ideal.cmp] at h

/-- The one index of a scalar. -/
def origin : S_.Idx := fun a => a.elim0

instance : Subsingleton S_.Idx := ⟨fun _ _ => funext fun a => a.elim0⟩

/-- The test of one argument for finite entries, read back. -/
theorem real_of_all {S : Shape} {axes : List (Fin S.rank)} (v : FVec Ideal S .f32)
    (hb : S_.BroadcastsInDim S (![] : Fin 0 → Fin S.rank)) (hr : S.ReducesTo axes S_)
    (h : Host.reduce IntOp.andi (cmpf .olt (Host.absf v) (broadcastInDim S ![] hb (constant S_ .f32 0x7F800000#32)))
      (constantI S_ 1 1#1) hr h_S_ = fun _ => 1#1) (i : S.Idx) : IsReal (v i) :=
  real_of_cmp (Host.reduce_andi_all _ _ hr h_S_ origin (congrFun h origin) i)

/-- The test of one argument for equality with another array, read back. -/
theorem eq_of_all {S : Shape} {axes : List (Fin S.rank)} (v w : FVec Ideal S .f32) (hr : S.ReducesTo axes S_)
    (h : Host.reduce IntOp.andi (cmpf .oeq v w) (constantI S_ 1 1#1) hr h_S_ = fun _ => 1#1) (i : S.Idx) : v i = w i :=
  eq_of_cmp (Host.reduce_andi_all _ _ hr h_S_ origin (congrFun h origin) i)

/-- The logarithms of 1, …, 16, one row for every channel. -/
def logs : FVec Ideal S1024x16 .f32 :=
  broadcastInDim S1024x16 ![0, 1] bcast_S1x16_S1024x16_0_1 (broadcastInDim S1x16 ![1] bcast_S16_S1x16_1
    (Host.log (sitofp .f32 (addi (iotaInDim S16 32 0) (broadcastInDim S16 ![] bcast_S_S16 (constantI S_ 32 1#32))))))

/-- The factor of state `n` is `n + 1`. -/
theorem exp_logs (d : Fin 1024) (n : Fin 16) : Ideal.exp (logs (ix2 d n)) = ((n.1 + 1 : ℝ) : EReal) := by
  have e : logs (ix2 d n) = Ideal.log ((((BitVec.ofNat 32 n.1 + 1#32).toInt : ℤ) : ℝ) : EReal) := by
    pointwise [logs]
    rfl
  have t : (BitVec.ofNat 32 n.1 + 1#32).toInt = (n.1 : ℤ) + 1 := by
    clear e
    revert n
    decide
  have p : (0 : ℝ) < (n.1 : ℝ) + 1 := by positivity
  rw [e, t, Int.cast_add, Int.cast_natCast, Int.cast_one, Ideal.log_coe, if_neg (not_le.2 p), Ideal.exp_coe, Real.exp_log p]

variable (image : FVec Ideal S2048x5x512 .f32) (lidar : FVec Ideal S2048x5x512 .f32)
  (radar : FVec Ideal S2048x5x512 .f32) (gps : FVec Ideal S2048x2x512 .f32) (win : FVec Ideal S2048x512 .f32)
  (wconv : FVec Ideal S1024x4 .f32) (bconv : FVec Ideal S1024 .f32) (wx : FVec Ideal S64x1024 .f32)
  (wdt : FVec Ideal S1024x32 .f32) (bdt : FVec Ideal S1024 .f32) (alog : FVec Ideal S1024x16 .f32)
  (dpar : FVec Ideal S1024 .f32) (wout : FVec Ideal S512x1024 .f32) (wmlp : FVec Ideal S5x5 .f32)
  (bmlp : FVec Ideal S5 .f32) (wgps : FVec Ideal S2x2 .f32) (bgps : FVec Ideal S2 .f32)

/-- What the arguments satisfy. -/
structure Given : Prop where
  bias : ∀ d, bconv (ix1 d) = 0
  skip : ∀ d, dpar (ix1 d) = 1
  decay : ∀ d n, Ideal.exp (alog (ix2 d n)) = ((n.1 + 1 : ℝ) : EReal)
  image : ∀ i, IsReal (image i)
  lidar : ∀ i, IsReal (lidar i)
  radar : ∀ i, IsReal (radar i)
  gps : ∀ i, IsReal (gps i)
  win : ∀ i, IsReal (win i)
  wconv : ∀ i, IsReal (wconv i)
  wx : ∀ i, IsReal (wx i)
  wdt : ∀ i, IsReal (wdt i)
  bdt : ∀ i, IsReal (bdt i)
  wout : ∀ i, IsReal (wout i)
  wmlp : ∀ i, IsReal (wmlp i)
  bmlp : ∀ i, IsReal (bmlp i)
  wgps : ∀ i, IsReal (wgps i)
  bgps : ∀ i, IsReal (bgps i)

/-- The precondition gives it. -/
theorem given
    (h : (fn (F := Ideal) image lidar radar gps win wconv bconv wx wdt bdt alog dpar wout wmlp bmlp wgps bgps).1 = (fun _ => 1#1)
      ∧ (fn (F := Ideal) image lidar radar gps win wconv bconv wx wdt bdt alog dpar wout wmlp bmlp wgps bgps).2.1 = (fun _ => 1#1)
      ∧ (fn (F := Ideal) image lidar radar gps win wconv bconv wx wdt bdt alog dpar wout wmlp bmlp wgps bgps).2.2.1 = (fun _ => 1#1)
      ∧ (fn (F := Ideal) image lidar radar gps win wconv bconv wx wdt bdt alog dpar wout wmlp bmlp wgps bgps).2.2.2.1 = (fun _ => 1#1)
      ∧ (fn (F := Ideal) image lidar radar gps win wconv bconv wx wdt bdt alog dpar wout wmlp bmlp wgps bgps).2.2.2.2.1 = (fun _ => 1#1)
      ∧ (fn (F := Ideal) image lidar radar gps win wconv bconv wx wdt bdt alog dpar wout wmlp bmlp wgps bgps).2.2.2.2.2.1 = (fun _ => 1#1)
      ∧ (fn (F := Ideal) image lidar radar gps win wconv bconv wx wdt bdt alog dpar wout wmlp bmlp wgps bgps).2.2.2.2.2.2.1 = (fun _ => 1#1)
      ∧ (fn (F := Ideal) image lidar radar gps win wconv bconv wx wdt bdt alog dpar wout wmlp bmlp wgps bgps).2.2.2.2.2.2.2.1 = (fun _ => 1#1)
      ∧ (fn (F := Ideal) image lidar radar gps win wconv bconv wx wdt bdt alog dpar wout wmlp bmlp wgps bgps).2.2.2.2.2.2.2.2.1 = (fun _ => 1#1)
      ∧ (fn (F := Ideal) image lidar radar gps win wconv bconv wx wdt bdt alog dpar wout wmlp bmlp wgps bgps).2.2.2.2.2.2.2.2.2.1 = (fun _ => 1#1)
      ∧ (fn (F := Ideal) image lidar radar gps win wconv bconv wx wdt bdt alog dpar wout wmlp bmlp wgps bgps).2.2.2.2.2.2.2.2.2.2.1 = (fun _ => 1#1)
      ∧ (fn (F := Ideal) image lidar radar gps win wconv bconv wx wdt bdt alog dpar wout wmlp bmlp wgps bgps).2.2.2.2.2.2.2.2.2.2.2.1 = (fun _ => 1#1)
      ∧ (fn (F := Ideal) image lidar radar gps win wconv bconv wx wdt bdt alog dpar wout wmlp bmlp wgps bgps).2.2.2.2.2.2.2.2.2.2.2.2.1 = (fun _ => 1#1)
      ∧ (fn (F := Ideal) image lidar radar gps win wconv bconv wx wdt bdt alog dpar wout wmlp bmlp wgps bgps).2.2.2.2.2.2.2.2.2.2.2.2.2.1 = (fun _ => 1#1)
      ∧ (fn (F := Ideal) image lidar radar gps win wconv bconv wx wdt bdt alog dpar wout wmlp bmlp wgps bgps).2.2.2.2.2.2.2.2.2.2.2.2.2.2.1 = (fun _ => 1#1)
      ∧ (fn (F := Ideal) image lidar radar gps win wconv bconv wx wdt bdt alog dpar wout wmlp bmlp wgps bgps).2.2.2.2.2.2.2.2.2.2.2.2.2.2.2.1 = (fun _ => 1#1)
      ∧ (fn (F := Ideal) image lidar radar gps win wconv bconv wx wdt bdt alog dpar wout wmlp bmlp wgps bgps).2.2.2.2.2.2.2.2.2.2.2.2.2.2.2.2 = (fun _ => 1#1)) :
    Given image lidar radar gps win wconv bconv wx wdt bdt alog dpar wout wmlp bmlp wgps bgps := by
  dsimp only [fn, fn_part1, fn_part2, fn_part3, fn_part4] at h
  obtain ⟨hb, hD, hA, h0, h1, h2, h3, h4, h5, h6, h7, h8, h9, h10, h11, h12, h13⟩ := h
  exact
    { bias := fun d => (eq_of_all bconv _ reducesTo_S1024_S_d0 hb (ix1 d)).trans Ideal.ofBits_zero_f32
      skip := fun d => (eq_of_all dpar _ reducesTo_S1024_S_d0 hD (ix1 d)).trans Ideal.ofBits_one_f32
      decay := fun d n => (congrArg Ideal.exp (eq_of_all alog _ reducesTo_S1024x16_S_d0_1 hA (ix2 d n))).trans (exp_logs d n)
      image := real_of_all image bcast_S_S2048x5x512 reducesTo_S2048x5x512_S_d0_1_2 h0
      lidar := real_of_all lidar bcast_S_S2048x5x512 reducesTo_S2048x5x512_S_d0_1_2 h1
      radar := real_of_all radar bcast_S_S2048x5x512 reducesTo_S2048x5x512_S_d0_1_2 h2
      gps := real_of_all gps bcast_S_S2048x2x512 reducesTo_S2048x2x512_S_d0_1_2 h3
      win := real_of_all win bcast_S_S2048x512 reducesTo_S2048x512_S_d0_1 h4
      wconv := real_of_all wconv bcast_S_S1024x4 reducesTo_S1024x4_S_d0_1 h5
      wx := real_of_all wx bcast_S_S64x1024 reducesTo_S64x1024_S_d0_1 h6
      wdt := real_of_all wdt bcast_S_S1024x32 reducesTo_S1024x32_S_d0_1 h7
      bdt := real_of_all bdt bcast_S_S1024 reducesTo_S1024_S_d0 h8
      wout := real_of_all wout bcast_S_S512x1024 reducesTo_S512x1024_S_d0_1 h9
      wmlp := real_of_all wmlp bcast_S_S5x5 reducesTo_S5x5_S_d0_1 h10
      bmlp := real_of_all bmlp bcast_S_S5 reducesTo_S5_S_d0 h11
      wgps := real_of_all wgps bcast_S_S2x2 reducesTo_S2x2_S_d0_1 h12
      bgps := real_of_all bgps bcast_S_S2 reducesTo_S2_S_d0 h13 }

end Cert.Pre_mamba_defaults

end
-- ==== Proof.Array.lean ====
/- The kernel's result array, entry by entry: at token `r` and column `j` it is the sum of the position rows' mean and
   the three streams' means. -/
module

public import proofs.«01_k».proof.Proof.Reads
public import proofs.«01_k».proof.Proof.OutsA
public import proofs.«01_k».proof.Proof.OutsB
public import proofs.«01_k».proof.Proof.Given

@[expose] public section

set_option maxRecDepth 16384

noncomputable section

namespace Cert.KernelIdeal.Block

open Idealize.ShloMosaic Idealize.ShloMosaic.TcCoe Cert.KernelIdeal Cert.KernelIdeal.Gen

variable (m : (ℓ : Loc nD τ sig) → Buf (Elt Ideal) ℓ) (c : Dev nD) (t : Fin cfg0.N)

/-- Stream `s`'s mean at token `r`. -/
def streamAt (s : Fin 3) (r : Fin 2048) (j : Fin 512) : EReal :=
  Row.fuse (Row.mix (weightsArg m c) (ReferenceIdeal.Vec.tokens (streamArg m c s) r))
    (ReferenceIdeal.Vec.mixing (m (c.tc.loc main_arg13))) (ReferenceIdeal.Vec.bias (m (c.tc.loc main_arg14))) j

/-- The position rows' mean at token `r`. -/
def positionAt (r : Fin 2048) (j : Fin 512) : EReal :=
  Row.fuse (ReferenceIdeal.Vec.pfeats (m (c.tc.loc main_arg3)) r) (ReferenceIdeal.Vec.pmixing (m (c.tc.loc main_arg15)))
    (ReferenceIdeal.Vec.pbias (m (c.tc.loc main_arg16))) j

/-- What the arguments as launched satisfy. -/
abbrev GivenAt : Prop :=
  Pre_mamba_defaults.Given (m (c.tc.loc main_arg0)) (m (c.tc.loc main_arg1)) (m (c.tc.loc main_arg2))
    (m (c.tc.loc main_arg3)) (m (c.tc.loc main_arg4)) (m (c.tc.loc main_arg5)) (m (c.tc.loc main_arg6))
    (m (c.tc.loc main_arg7)) (m (c.tc.loc main_arg8)) (m (c.tc.loc main_arg9)) (m (c.tc.loc main_arg10))
    (m (c.tc.loc main_arg11)) (m (c.tc.loc main_arg12)) (m (c.tc.loc main_arg13)) (m (c.tc.loc main_arg14))
    (m (c.tc.loc main_arg15)) (m (c.tc.loc main_arg16))

variable (H : GivenAt m c)

include H

theorem weights_real : (weightsArg m c).Real where
  win j k := H.win (ix2 j k)
  wconv d k := H.wconv (ix2 d k)
  wx e d := H.wx (ix2 e d)
  wdt d k := H.wdt (ix2 d k)
  bdt d := H.bdt (ix1 d)
  wout j d := H.wout (ix2 j d)

theorem stream_real (s : Fin 3) (i : S2048x5x512.Idx) : Row.IsReal (streamArg m c s i) := by
  fin_cases s
  · exact H.image i
  · exact H.lidar i
  · exact H.radar i

/-- No softmax over the time steps divides by zero. -/
theorem stream_den (s : Fin 3) (r : Fin 2048) :
    Row.den (Row.mix (weightsArg m c) (ReferenceIdeal.Vec.tokens (streamArg m c s) r))
      (ReferenceIdeal.Vec.mixing (m (c.tc.loc main_arg13))) (ReferenceIdeal.Vec.bias (m (c.tc.loc main_arg14))) ≠ 0 :=
  Row.den_ne_zero (fun l j => Row.mix_real (weights_real m c H) (fun l k => stream_real m c H s (ix3 r l k)) l j)
    (fun s l => H.wmlp (ix2 s l)) (fun s => H.bmlp (ix1 s))

/-- Nor does the one over the position rows. -/
theorem position_den (r : Fin 2048) :
    Row.den (ReferenceIdeal.Vec.pfeats (m (c.tc.loc main_arg3)) r) (ReferenceIdeal.Vec.pmixing (m (c.tc.loc main_arg15)))
      (ReferenceIdeal.Vec.pbias (m (c.tc.loc main_arg16))) ≠ 0 :=
  Row.den_ne_zero (fun l k => H.gps (ix3 r l k)) (fun s l => H.wgps (ix2 s l)) (fun s => H.bgps (ix1 s))

omit H in
/-- The mixer's rows at point `t`. -/
theorem feats_read (s : Fin 3) (h : t.val % 3 = s.val) (q : Fin 256) :
    feats (mixed (iblk m c 0 t) (iblk m c 2 t) (iblk m c 3 t) (iblk m c 4 t) (iblk m c 5 t) (iblk m c 6 t) (iblk m c 7 t)) q
      = Row.mix (weightsArg m c) (ReferenceIdeal.Vec.tokens (streamArg m c s) (row t q)) := by
  rw [← weights_read m c t, ← tokens_read m c t s h q]
  exact funext fun l => funext fun j => mixed_apply _ _ _ _ _ _ _ l q j

/-- The contribution of point `t`'s stream. -/
theorem fusedAt_apply (s : Fin 3) (h : t.val % 3 = s.val) (q : Fin 256) (j : Fin 512) :
    fusedAt m c t (ix2 q j) = streamAt m c s (row t q) j := by
  have hd := stream_den m c H s (row t q)
  rw [← feats_read m c t s h q, ← mixing_read m c t, ← bias_read m c t] at hd
  refine (fuse_apply _ _ _ q j hd).trans ?_
  rw [feats_read m c t s h q, mixing_read m c t, bias_read m c t]
  rfl

/-- The contribution of the position rows. -/
theorem position_apply (q : Fin 256) (j : Fin 512) :
    (pweight (iblk m c 1 t) (iblk m c 10 t) (iblk m c 11 t) 0 (by decide) (ix2 q j) * k0_pay5 (iblk m c 1 t) (ix2 q j) : EReal)
        + pweight (iblk m c 1 t) (iblk m c 10 t) (iblk m c 11 t) 1 (by decide) (ix2 q j) * k0_pay6 (iblk m c 1 t) (ix2 q j)
      = positionAt m c (row t q) j := by
  have hd := position_den m c H (row t q)
  rw [← pfeats_read m c t q, ← pmixing_read m c t, ← pbias_read m c t] at hd
  refine (pfuse_apply _ _ _ q j hd).trans ?_
  rw [pfeats_read m c t q, pmixing_read m c t, pbias_read m c t]
  rfl

/-- What the first point of a run leaves. -/
theorem first_apply (h : t.val % 3 = 0) (q : Fin 256) (j : Fin 512) :
    outsAt0 m c t.val t.isLt (ix2 q j) = streamAt m c 0 (row t q) j + positionAt m c (row t q) j := by
  rw [outs_first m c t h (by omega), ReferenceIdeal.Vec.addf_at, ReferenceIdeal.Vec.addf_at]
  refine (add_assoc _ _ _).trans ?_
  exact congrArg₂ (· + ·) (fusedAt_apply m c t H 0 h q j) (position_apply m c t H q j)

omit H in
theorem same_shape (v : FVec Ideal S256x512 .f32) (q : Fin 256) (j : Fin 512) :
    shapeCast S256x512 v shapeCasts_S256x512_S256x512 (ix2 q j) = v (ix2 q j) := by
  pointwise []

/-- What a later point of a run leaves. -/
theorem later_apply (s : Fin 3) (h : t.val % 3 = s.val) (h1 : 1 ≤ s.val) (q : Fin 256) (j : Fin 512) :
    outsAt0 m c t.val t.isLt (ix2 q j)
      = outsAt0 m c (t.val - 1) (Nat.lt_of_le_of_lt (Nat.sub_le _ _) t.isLt) (ix2 q j) + streamAt m c s (row t q) j := by
  rw [outs_later m c t (by omega) (by omega), ReferenceIdeal.Vec.addf_at]
  exact congrArg₂ (· + ·) (same_shape _ q j) (fusedAt_apply m c t H s h q j)

/-- The result at token `r`. -/
def resultAt (r : Fin 2048) (j : Fin 512) : EReal :=
  streamAt m c 0 r j + positionAt m c r j + streamAt m c 1 r j + streamAt m c 2 r j

/-- What the last point of a run leaves. -/
theorem last_apply (h : t.val % 3 = 2) (q : Fin 256) (j : Fin 512) :
    outsAt0 m c t.val t.isLt (ix2 q j) = resultAt m c (row t q) j := by
  have l1 : t.val - 1 < cfg0.N := Nat.lt_of_le_of_lt (Nat.sub_le _ _) t.isLt
  have l2 : t.val - 1 - 1 < cfg0.N := Nat.lt_of_le_of_lt (Nat.sub_le _ _) l1
  have r1 : row ⟨t.val - 1, l1⟩ q = row t q := Fin.ext (by show 256 * ((t.val - 1) / 3) + q.val = 256 * (t.val / 3) + q.val; omega)
  have r2 : row ⟨t.val - 1 - 1, l2⟩ q = row t q :=
    Fin.ext (by show 256 * ((t.val - 1 - 1) / 3) + q.val = 256 * (t.val / 3) + q.val; omega)
  have e1 := later_apply m c t H 2 h (by decide) q j
  have e2 := later_apply m c ⟨t.val - 1, l1⟩ H 1 (by show (t.val - 1) % 3 = 1; omega) (by decide) q j
  have e3 := first_apply m c ⟨t.val - 1 - 1, l2⟩ H (by show (t.val - 1 - 1) % 3 = 0; omega) q j
  rw [r1] at e2
  rw [r2] at e3
  exact e1.trans (congrArg (· + _) (e2.trans (congrArg (· + _) e3)))

/-- The result array. -/
theorem array : (dats m 0 c).arrAt 12 cfg0.N = fun i : S2048x512.Idx => resultAt m c (i 0) (i 1) := by
  refine (dats m 0 c).arrAt_eq_of_covers 12 _ (by decide +kernel) fun t hf y => ?_
  blk_simp
  rw [after0_12]
  rw [ValueIdx.eq_ix2 y]
  refine (last_apply m c t H ((flush0_12 t).mp hf) (y 0) (y 1)).trans ?_
  congr 1
  · refine Fin.ext ?_
    blk_simp [idx t, row]
    show 256 * (t.val / 3) + (y 0).val = t.val / 3 * 256 + (y 0).val
    omega
  · refine Fin.ext ?_
    blk_simp [idx t]

end Cert.KernelIdeal.Block

end
-- ==== Proof.RefValue.lean ====
/- The reference's result, entry by entry: the three streams' means and the position rows' mean, added up. -/
module

public import proofs.«01_k».proof.Proof.RefMix
public import proofs.«01_k».proof.Proof.RefFuse

@[expose] public section

set_option maxRecDepth 16384

noncomputable section

namespace Cert.ReferenceIdeal.Vec

open Cert.ReferenceIdeal Cert.ReferenceIdeal.Gen Idealize.ShloMosaic Idealize.ShloMosaic.TcCoe Idealize.ShloMosaic.StableHlo

variable (V0 : Valuation τ sig (Elt Ideal))

/-- The mixer's weights as launched. -/
def weightsArg : Row.Weights :=
  weights (V0 (Proc.devRef .tc main_arg4)) (V0 (Proc.devRef .tc main_arg5)) (V0 (Proc.devRef .tc main_arg7))
    (V0 (Proc.devRef .tc main_arg8)) (V0 (Proc.devRef .tc main_arg9)) (V0 (Proc.devRef .tc main_arg12))

/-- A stream's mean at token `r`. -/
def streamAt (x : FVec Ideal S2048x5x512 .f32) (r : Fin 2048) (j : Fin 512) : EReal :=
  Row.fuse (Row.mix (weightsArg V0) (tokens x r)) (mixing (V0 (Proc.devRef .tc main_arg13)))
    (bias (V0 (Proc.devRef .tc main_arg14))) j

/-- The position rows' mean at token `r`. -/
def positionAt (r : Fin 2048) (j : Fin 512) : EReal :=
  Row.fuse (pfeats (V0 (Proc.devRef .tc main_arg3)) r) (pmixing (V0 (Proc.devRef .tc main_arg15)))
    (pbias (V0 (Proc.devRef .tc main_arg16))) j

/-- A stream's contribution at token `r`: the mean of what the mixer makes of its rows. -/
theorem fuse_mixer_apply (x : FVec Ideal S2048x5x512 .f32) (win : FVec Ideal S2048x512 .f32)
    (wconv : FVec Ideal S1024x4 .f32) (bconv : FVec Ideal S1024 .f32) (wx : FVec Ideal S64x1024 .f32)
    (wdt : FVec Ideal S1024x32 .f32) (bdt : FVec Ideal S1024 .f32) (alog : FVec Ideal S1024x16 .f32)
    (dpar : FVec Ideal S1024 .f32) (wout : FVec Ideal S512x1024 .f32) (w : FVec Ideal S5x5 .f32) (b : FVec Ideal S5 .f32)
    (hb : ∀ d : Fin 1024, bconv (ix1 d) = 0) (hD : ∀ d : Fin 1024, dpar (ix1 d) = 1)
    (hA : ∀ (d : Fin 1024) (n : Fin 16), Ideal.exp (alog (ix2 d n)) = ((n.1 + 1 : ℝ) : EReal))
    (r : Fin 2048) (j : Fin 512) :
    fuse (mixer x win wconv bconv wx wdt bdt alog dpar wout) w b (ix2 r j)
      = Row.fuse (Row.mix (weights win wconv wx wdt bdt wout) (tokens x r)) (mixing w) (bias b) j := by
  have e : feats (mixer x win wconv bconv wx wdt bdt alog dpar wout) r = Row.mix (weights win wconv wx wdt bdt wout) (tokens x r) :=
    funext fun l => funext fun k => mixer_apply x win wconv bconv wx wdt bdt alog dpar wout hb hD hA r l k
  rw [fuse_apply, e]

/-- The reference's result at token `r`, for weights without a convolution bias, with skip weight 1 and the decay rates
1 to 16. -/
theorem total_apply (hb : ∀ d : Fin 1024, (V0 (Proc.devRef .tc main_arg6) : FVec Ideal S1024 .f32) (ix1 d) = (0 : EReal))
    (hD : ∀ d : Fin 1024, (V0 (Proc.devRef .tc main_arg11) : FVec Ideal S1024 .f32) (ix1 d) = (1 : EReal))
    (hA : ∀ (d : Fin 1024) (n : Fin 16),
      Ideal.exp ((V0 (Proc.devRef .tc main_arg10) : FVec Ideal S1024x16 .f32) (ix2 d n)) = ((n.1 + 1 : ℝ) : EReal))
    (r : Fin 2048) (j : Fin 512) :
    total V0 (ix2 r j)
      = streamAt V0 (V0 (Proc.devRef .tc main_arg0)) r j + streamAt V0 (V0 (Proc.devRef .tc main_arg1)) r j
        + streamAt V0 (V0 (Proc.devRef .tc main_arg2)) r j + positionAt V0 r j := by
  have S (x : FVec Ideal S2048x5x512 .f32) : streamOf V0 x (ix2 r j) = streamAt V0 x r j := by
    unfold streamOf mixerOf streamAt weightsArg
    exact fuse_mixer_apply x _ _ _ _ _ _ _ _ _ _ _ hb hD hA r j
  unfold total
  rw [addf_at, addf_at, addf_at, S, S, S, pfuse_apply]
  rfl

end Cert.ReferenceIdeal.Vec

end
-- ==== Proof.Same.lean ====
/- The kernel's result is the reference's, for equal arguments within the precondition. -/
module

public import proofs.«01_k».proof.Proof.Array
public import proofs.«01_k».proof.Proof.RefValue

@[expose] public section

set_option maxRecDepth 16384

noncomputable section

namespace Cert.KernelIdeal.Block

open Idealize.ShloMosaic Idealize.ShloMosaic.TcCoe Cert.KernelIdeal Cert.KernelIdeal.Gen

variable (m : (ℓ : Loc nD τ sig) → Buf (Elt Ideal) ℓ) (c : Dev nD)
  (V0 : Valuation ReferenceIdeal.τ ReferenceIdeal.sig (Elt Ideal))

/-- The reference's arguments are the kernel's. -/
structure Agree : Prop where
  a0 : V0 (Proc.devRef .tc ReferenceIdeal.main_arg0) = m (c.tc.loc main_arg0)
  a1 : V0 (Proc.devRef .tc ReferenceIdeal.main_arg1) = m (c.tc.loc main_arg1)
  a2 : V0 (Proc.devRef .tc ReferenceIdeal.main_arg2) = m (c.tc.loc main_arg2)
  a3 : V0 (Proc.devRef .tc ReferenceIdeal.main_arg3) = m (c.tc.loc main_arg3)
  a4 : V0 (Proc.devRef .tc ReferenceIdeal.main_arg4) = m (c.tc.loc main_arg4)
  a5 : V0 (Proc.devRef .tc ReferenceIdeal.main_arg5) = m (c.tc.loc main_arg5)
  a6 : V0 (Proc.devRef .tc ReferenceIdeal.main_arg6) = m (c.tc.loc main_arg6)
  a7 : V0 (Proc.devRef .tc ReferenceIdeal.main_arg7) = m (c.tc.loc main_arg7)
  a8 : V0 (Proc.devRef .tc ReferenceIdeal.main_arg8) = m (c.tc.loc main_arg8)
  a9 : V0 (Proc.devRef .tc ReferenceIdeal.main_arg9) = m (c.tc.loc main_arg9)
  a10 : V0 (Proc.devRef .tc ReferenceIdeal.main_arg10) = m (c.tc.loc main_arg10)
  a11 : V0 (Proc.devRef .tc ReferenceIdeal.main_arg11) = m (c.tc.loc main_arg11)
  a12 : V0 (Proc.devRef .tc ReferenceIdeal.main_arg12) = m (c.tc.loc main_arg12)
  a13 : V0 (Proc.devRef .tc ReferenceIdeal.main_arg13) = m (c.tc.loc main_arg13)
  a14 : V0 (Proc.devRef .tc ReferenceIdeal.main_arg14) = m (c.tc.loc main_arg14)
  a15 : V0 (Proc.devRef .tc ReferenceIdeal.main_arg15) = m (c.tc.loc main_arg15)
  a16 : V0 (Proc.devRef .tc ReferenceIdeal.main_arg16) = m (c.tc.loc main_arg16)

variable (A : Agree m c V0)

include A

theorem weights_same : ReferenceIdeal.Vec.weightsArg V0 = weightsArg m c := by
  unfold ReferenceIdeal.Vec.weightsArg weightsArg
  rw [A.a4, A.a5, A.a7, A.a8, A.a9, A.a12]

theorem stream_same (x : FVec Ideal S2048x5x512 .f32) (s : Fin 3) (h : x = streamArg m c s) (r : Fin 2048) (j : Fin 512) :
    ReferenceIdeal.Vec.streamAt V0 x r j = streamAt m c s r j := by
  unfold ReferenceIdeal.Vec.streamAt streamAt
  rw [weights_same m c V0 A, A.a13, A.a14, h]

theorem position_same (r : Fin 2048) (j : Fin 512) : ReferenceIdeal.Vec.positionAt V0 r j = positionAt m c r j := by
  unfold ReferenceIdeal.Vec.positionAt positionAt
  rw [A.a3, A.a15, A.a16]

/-- The reference adds the position rows' mean last, the kernel after the first stream's. -/
theorem total_same (H : GivenAt m c) (r : Fin 2048) (j : Fin 512) :
    ReferenceIdeal.Vec.total V0 (ix2 r j) = resultAt m c r j := by
  refine (ReferenceIdeal.Vec.total_apply V0 (fun d => (congrFun A.a6 (ix1 d)).trans (H.bias d))
    (fun d => (congrFun A.a11 (ix1 d)).trans (H.skip d))
    (fun d n => (congrArg Ideal.exp (congrFun A.a10 (ix2 d n))).trans (H.decay d n)) r j).trans ?_
  rw [stream_same m c V0 A _ 0 A.a0, stream_same m c V0 A _ 1 A.a1, stream_same m c V0 A _ 2 A.a2, position_same m c V0 A]
  unfold resultAt
  ac_rfl

/-- The kernel's result array is the reference's. -/
theorem array_same (H : GivenAt m c) : (dats m 0 c).arrAt 12 cfg0.N = ReferenceIdeal.Vec.total V0 := by
  rw [array m c H]
  funext i
  refine (total_same m c V0 A H (i 0) (i 1)).symm.trans ?_
  exact congrArg (ReferenceIdeal.Vec.total V0) (ValueIdx.eq_ix2 i).symm

end Cert.KernelIdeal.Block

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal.Run
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_mamba_defaults
public import proofs.«01_k».proof.Proof.Same
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference keeps its arguments, and declares no semaphore. -/
theorem reference_frame : Cert.quiescent_ReferenceIdeal := fun m ρ _ =>
  (θ_run _ _ _).mono (fun r h => ⟨fun c => (h c).2, sem_eq_zero_of_no_sems (by decide) r.2⟩) (Cert.ReferenceIdeal.Value.run m ρ)

/-- The kernel and the reference leave the same result. -/
theorem algebraic : Cert.algebraic_KernelIdeal_ReferenceIdeal_pre_mamba_defaults := by
  intro m ρ m' ρ' pre agree
  have A (c) : Cert.KernelIdeal.Block.Agree m c (StableHlo.launchContents m' c) := by
    obtain ⟨h0, h1, h2, h3, h4, h5, h6, h7, h8, h9, h10, h11, h12, h13, h14, h15, h16⟩ := agree c
    exact ⟨h0, h1, h2, h3, h4, h5, h6, h7, h8, h9, h10, h11, h12, h13, h14, h15, h16⟩
  have H (c) : Cert.KernelIdeal.Block.GivenAt m c :=
    Cert.Pre_mamba_defaults.given _ _ _ _ _ _ _ _ _ _ _ _ _ _ _ _ _ (pre c)
  refine ⟨fun c => (Cert.KernelIdeal.Gen.dats m 0 c).arrAt 12 Cert.KernelIdeal.cfg0.N, Cert.KernelIdeal.Value.run_blocks m ρ, ?_⟩
  refine (θ_run _ _ _).mono (fun r h c => ?_) (Cert.ReferenceIdeal.Value.run m' ρ')
  obtain ⟨h1, h2⟩ := h c
  exact ⟨h1.trans (Cert.KernelIdeal.Block.array_same m c _ (A c) (H c)).symm, h2⟩

theorem claim : Cert.Claim := ⟨Cert.Kernel.Gen.facts, Cert.KernelIdeal.Gen.facts, Cert.ReferenceIdeal.Gen.facts, Cert.Pre_mamba_defaults.Gen.facts, by
  exact ⟨fun m ρ _ => Cert.Kernel.Gen.frame m ρ, fun m ρ _ => Cert.KernelIdeal.Gen.frame m ρ,
    fun m ρ _ => Cert.KernelIdeal.Gen.frame m ρ, reference_frame,
    fun m ρ _ => reference_frame m ρ trivial, trivial, algebraic⟩⟩

end Cert.Proof

end
